-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "past" .f32 0x7F61B1E6#32 ⊤
  ∧ IdealRules.named_const.Statement Cert.KernelIdeal.κ "near" .f32 0x3F2F5C29#32 ((367756565 / 536870912 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16x8x128x2 : Shape := ⟨4, ![16, 8, 128, 2]⟩
abbrev S16x2 : Shape := ⟨2, ![16, 2]⟩
abbrev S16x8x128x1 : Shape := ⟨4, ![16, 8, 128, 1]⟩
abbrev S16x8x128 : Shape := ⟨3, ![16, 8, 128]⟩
abbrev S_ : Shape := ⟨0, ![]⟩
abbrev S16x1 : Shape := ⟨2, ![16, 1]⟩
abbrev S16 : Shape := ⟨1, ![16]⟩
abbrev S16x1x1 : Shape := ⟨3, ![16, 1, 1]⟩
abbrev S16x8x1x128 : Shape := ⟨4, ![16, 8, 1, 128]⟩
abbrev S16x8x128x128 : Shape := ⟨4, ![16, 8, 128, 128]⟩
abbrev S16x8 : Shape := ⟨2, ![16, 8]⟩
abbrev S16x8x1x1 : Shape := ⟨4, ![16, 8, 1, 1]⟩
abbrev S128x128 : Shape := ⟨2, ![128, 128]⟩
abbrev S1x1x128x128 : Shape := ⟨4, ![1, 1, 128, 128]⟩

class Facts : Prop where
  slices_S16x8x128x2_S16x8x128x1_0_0_0_0 : S16x8x128x2.Slices ![0, 0, 0, 0] S16x8x128x1
  shapeCasts_S16x8x128x1_S16x8x128 : S16x8x128x1.ShapeCasts S16x8x128
  bcast_S_S16x8x128 : S_.BroadcastsInDim S16x8x128 (![] : Fin 0 → Fin S16x8x128.rank)
  slices_S16x2_S16x1_0_1 : S16x2.Slices ![0, 1] S16x1
  shapeCasts_S16x1_S16 : S16x1.ShapeCasts S16
  slices_S16x2_S16x1_0_0 : S16x2.Slices ![0, 0] S16x1
  bcast_S_S16 : S_.BroadcastsInDim S16 (![] : Fin 0 → Fin S16.rank)
  slices_S16x8x128x2_S16x8x128x1_0_0_0_1 : S16x8x128x2.Slices ![0, 0, 0, 1] S16x8x128x1
  bcast_S16_S16x1x1_0 : S16.BroadcastsInDim S16x1x1 (![0] : Fin 1 → Fin S16x1x1.rank)
  bcast_S16x1x1_S16x8x128_0_1_2 : S16x1x1.BroadcastsInDim S16x8x128 (![0, 1, 2] : Fin 3 → Fin S16x8x128.rank)
  bcast_S16x8x128_S16x8x128x1_0_1_2 : S16x8x128.BroadcastsInDim S16x8x128x1 (![0, 1, 2] : Fin 3 → Fin S16x8x128x1.rank)
  bcast_S16x8x128_S16x8x1x128_0_1_3 : S16x8x128.BroadcastsInDim S16x8x1x128 (![0, 1, 3] : Fin 3 → Fin S16x8x1x128.rank)
  bcast_S_S16x8x128x1 : S_.BroadcastsInDim S16x8x128x1 (![] : Fin 0 → Fin S16x8x128x1.rank)
  bcast_S16x8x1x128_S16x8x128x128_0_1_2_3 : S16x8x1x128.BroadcastsInDim S16x8x128x128 (![0, 1, 2, 3] : Fin 4 → Fin S16x8x128x128.rank)
  bcast_S16x8x128x1_S16x8x128x128_0_1_2_3 : S16x8x128x1.BroadcastsInDim S16x8x128x128 (![0, 1, 2, 3] : Fin 4 → Fin S16x8x128x128.rank)
  bcast_S_S16x8x128x128 : S_.BroadcastsInDim S16x8x128x128 (![] : Fin 0 → Fin S16x8x128x128.rank)
  reducesTo_S16x8x128_S16x8_d2 : S16x8x128.ReducesTo [2] S16x8
  h_S_ : 0 < S_.numel
  bcast_S16x8_S16x8x1x1_0_1 : S16x8.BroadcastsInDim S16x8x1x1 (![0, 1] : Fin 2 → Fin S16x8x1x1.rank)
  bcast_S128x128_S1x1x128x128_2_3 : S128x128.BroadcastsInDim S1x1x128x128 (![2, 3] : Fin 2 → Fin S1x1x128x128.rank)
  bcast_S16x8x1x1_S16x8x128x1_0_1_2_3 : S16x8x1x1.BroadcastsInDim S16x8x128x1 (![0, 1, 2, 3] : Fin 4 → Fin S16x8x128x1.rank)
  bcast_S1x1x128x128_S16x8x128x128_0_1_2_3 : S1x1x128x128.BroadcastsInDim S16x8x128x128 (![0, 1, 2, 3] : Fin 4 → Fin S16x8x128x128.rank)
  bcast_S16x8x1x1_S16x8x1x128_0_1_2_3 : S16x8x1x1.BroadcastsInDim S16x8x1x128 (![0, 1, 2, 3] : Fin 4 → Fin S16x8x1x128.rank)
  bcast_S_S16x8x1x1 : S_.BroadcastsInDim S16x8x1x1 (![] : Fin 0 → Fin S16x8x1x1.rank)
  bcast_S16x8x1x1_S16x8x128x128_0_1_2_3 : S16x8x1x1.BroadcastsInDim S16x8x128x128 (![0, 1, 2, 3] : Fin 4 → Fin S16x8x128x128.rank)

variable [Facts]

def fn_part3 {F : FTy → Type} [FloatOps F] (main_v44 : IVec S16x8x128x128 1) (main_v46 : FVec F S16x8x1x1 .f32) (main_v59 : IVec S16x8x128x128 1) (main_v63 : IVec S16x8x128x1 1) : IVec S16x8x128x128 1 :=
  let main_cst_7 : FVec F S_ .f32 := constant S_ .f32 0x437F0000#32
  let main_v64 : FVec F S16x8x1x1 .f32 := broadcastInDim S16x8x1x1 ![] bcast_S_S16x8x1x1 main_cst_7
  let main_v65 : IVec S16x8x1x1 1 := cmpf .ogt main_v46 main_v64
  let main_v66 : FVec F S16x8x1x1 .f32 := Host.floor main_v46
  let main_v67 : IVec S16x8x1x1 1 := cmpf .une main_v46 main_v66
  let main_v68 : IVec S16x8x1x1 1 := ori main_v65 main_v67
  let main_v69 : IVec S16x8x128x128 1 := broadcastInDim S16x8x128x128 ![0, 1, 2, 3] bcast_S16x8x128x1_S16x8x128x128_0_1_2_3 main_v63
  let main_v70 : IVec S16x8x128x128 1 := andi main_v59 main_v69
  let main_v71 : IVec S16x8x128x128 1 := broadcastInDim S16x8x128x128 ![0, 1, 2, 3] bcast_S16x8x1x1_S16x8x128x128_0_1_2_3 main_v68
  let main_v72 : IVec S16x8x128x128 1 := ori main_v71 main_v70
  let main_v73 : IVec S16x8x128x128 1 := andi main_v44 main_v72
  main_v73

def fn_part2 {F : FTy → Type} [FloatOps F] (main_v7 : FVec F S16x8x128 .f32) (main_v24 : FVec F S16x8x128 .f32) (main_v25 : FVec F S16x8x128x1 .f32) (main_v26 : FVec F S16x8x1x128 .f32) (main_v38 : IVec S16x8x128x128 1) (main_v41 : FVec F S16x8x128x128 .f32) (main_cst_4 : FVec F S_ .f32) : IVec S16x8x128x128 1 :=
  let main_v42 : FVec F S16x8x128x128 .f32 := broadcastInDim S16x8x128x128 ![] bcast_S_S16x8x128x128 main_cst_4
  let main_v43 : IVec S16x8x128x128 1 := cmpf .ogt main_v41 main_v42
  let main_v44 : IVec S16x8x128x128 1 := ori main_v38 main_v43
  let main_cst_5 : FVec F S_ .f32 := constant S_ .f32 0xFF800000#32
  let main_v45 : FVec F S16x8 .f32 := (fun x v => Host.reduce FloatOps.maximumf x v reducesTo_S16x8x128_S16x8_d2 h_S_) main_v7 main_cst_5
  let main_v46 : FVec F S16x8x1x1 .f32 := broadcastInDim S16x8x1x1 ![0, 1] bcast_S16x8_S16x8x1x1_0_1 main_v45
  let main_v47 : IVec S128x128 32 := iotaInDim S128x128 32 0
  let main_v48 : IVec S128x128 32 := iotaInDim S128x128 32 1
  let main_v49 : IVec S128x128 1 := cmpi .eq main_v47 main_v48
  let main_v50 : IVec S1x1x128x128 1 := broadcastInDim S1x1x128x128 ![2, 3] bcast_S128x128_S1x1x128x128_2_3 main_v49
  let main_v51 : FVec F S16x8x128x1 .f32 := broadcastInDim S16x8x128x1 ![0, 1, 2, 3] bcast_S16x8x1x1_S16x8x128x1_0_1_2_3 main_v46
  let main_v52 : IVec S16x8x128x1 1 := cmpf .une main_v25 main_v51
  let main_v53 : IVec S16x8x128x128 1 := broadcastInDim S16x8x128x128 ![0, 1, 2, 3] bcast_S1x1x128x128_S16x8x128x128_0_1_2_3 main_v50
  let main_v54 : IVec S16x8x128x128 1 := broadcastInDim S16x8x128x128 ![0, 1, 2, 3] bcast_S16x8x128x1_S16x8x128x128_0_1_2_3 main_v52
  let main_v55 : IVec S16x8x128x128 1 := ori main_v53 main_v54
  let main_v56 : FVec F S16x8x1x128 .f32 := broadcastInDim S16x8x1x128 ![0, 1, 2, 3] bcast_S16x8x1x1_S16x8x1x128_0_1_2_3 main_v46
  let main_v57 : IVec S16x8x1x128 1 := cmpf .une main_v26 main_v56
  let main_v58 : IVec S16x8x128x128 1 := broadcastInDim S16x8x128x128 ![0, 1, 2, 3] bcast_S16x8x1x128_S16x8x128x128_0_1_2_3 main_v57
  let main_v59 : IVec S16x8x128x128 1 := ori main_v55 main_v58
  let main_v60 : FVec F S16x8x128 .f32 := Host.absf main_v24
  let main_cst_6 : FVec F S_ .f32 := constant S_ .f32 0x7F800000#32
  let main_v61 : FVec F S16x8x128 .f32 := broadcastInDim S16x8x128 ![] bcast_S_S16x8x128 main_cst_6
  let main_v62 : IVec S16x8x128 1 := cmpf .olt main_v60 main_v61
  let main_v63 : IVec S16x8x128x1 1 := broadcastInDim S16x8x128x1 ![0, 1, 2] bcast_S16x8x128_S16x8x128x1_0_1_2 main_v62
  fn_part3 (F := F) main_v44 main_v46 main_v59 main_v63

def fn_part1 {F : FTy → Type} [FloatOps F] (main_v7 : FVec F S16x8x128 .f32) (main_v14 : FVec F S16 .f32) (main_v16 : FVec F S16x8x128 .f32) (main_v19 : FVec F S16x1x1 .f32) : IVec S16x8x128x128 1 :=
  let main_v20 : FVec F S16x8x128 .f32 := broadcastInDim S16x8x128 ![0, 1, 2] bcast_S16x1x1_S16x8x128_0_1_2 main_v19
  let main_v21 : FVec F S16x8x128 .f32 := subf main_v16 main_v20
  let main_v22 : FVec F S16x1x1 .f32 := broadcastInDim S16x1x1 ![0] bcast_S16_S16x1x1_0 main_v14
  let main_v23 : FVec F S16x8x128 .f32 := broadcastInDim S16x8x128 ![0, 1, 2] bcast_S16x1x1_S16x8x128_0_1_2 main_v22
  let main_v24 : FVec F S16x8x128 .f32 := Host.divf main_v21 main_v23
  let main_v25 : FVec F S16x8x128x1 .f32 := broadcastInDim S16x8x128x1 ![0, 1, 2] bcast_S16x8x128_S16x8x128x1_0_1_2 main_v7
  let main_v26 : FVec F S16x8x1x128 .f32 := broadcastInDim S16x8x1x128 ![0, 1, 3] bcast_S16x8x128_S16x8x1x128_0_1_3 main_v7
  let main_cst_3 : FVec F S_ .f32 := constant S_ .f32 0x437F0000#32
  let main_v27 : FVec F S16x8x128x1 .f32 := broadcastInDim S16x8x128x1 ![] bcast_S_S16x8x128x1 main_cst_3
  let main_v28 : IVec S16x8x128x1 1 := cmpf .ogt main_v25 main_v27
  let main_v29 : FVec F S16x8x128x1 .f32 := Host.ceil main_v25
  let main_v30 : FVec F S16x8x128x128 .f32 := broadcastInDim S16x8x128x128 ![0, 1, 2, 3] bcast_S16x8x1x128_S16x8x128x128_0_1_2_3 main_v26
  let main_v31 : FVec F S16x8x128x128 .f32 := broadcastInDim S16x8x128x128 ![0, 1, 2, 3] bcast_S16x8x128x1_S16x8x128x128_0_1_2_3 main_v29
  let main_v32 : IVec S16x8x128x128 1 := cmpf .olt main_v30 main_v31
  let main_v33 : IVec S16x8x128x128 1 := broadcastInDim S16x8x128x128 ![0, 1, 2, 3] bcast_S16x8x128x1_S16x8x128x128_0_1_2_3 main_v28
  let main_v34 : IVec S16x8x128x128 1 := ori main_v33 main_v32
  let main_v35 : FVec F S16x8x128x128 .f32 := broadcastInDim S16x8x128x128 ![0, 1, 2, 3] bcast_S16x8x1x128_S16x8x128x128_0_1_2_3 main_v26
  let main_v36 : FVec F S16x8x128x128 .f32 := broadcastInDim S16x8x128x128 ![0, 1, 2, 3] bcast_S16x8x128x1_S16x8x128x128_0_1_2_3 main_v25
  let main_v37 : IVec S16x8x128x128 1 := cmpf .ole main_v35 main_v36
  let main_v38 : IVec S16x8x128x128 1 := ori main_v34 main_v37
  let main_v39 : FVec F S16x8x128x128 .f32 := broadcastInDim S16x8x128x128 ![0, 1, 2, 3] bcast_S16x8x1x128_S16x8x128x128_0_1_2_3 main_v26
  let main_v40 : FVec F S16x8x128x128 .f32 := broadcastInDim S16x8x128x128 ![0, 1, 2, 3] bcast_S16x8x128x1_S16x8x128x128_0_1_2_3 main_v25
  let main_v41 : FVec F S16x8x128x128 .f32 := subf main_v39 main_v40
  let main_cst_4 : FVec F S_ .f32 := constant S_ .f32 0x28800000#32
  fn_part2 (F := F) main_v7 main_v24 main_v25 main_v26 main_v38 main_v41 main_cst_4

def fn {F : FTy → Type} [FloatOps F] (main_arg0 : FVec F S16x8x128x2 .f32) (main_arg1 : FVec F S16x2 .f32) : IVec S16x8x128x128 1 :=
  let main_v0 : FVec F S16x8x128x1 .f32 := (extractStridedSlice S16x8x128x1 ![0, 0, 0, 0] · slices_S16x8x128x2_S16x8x128x1_0_0_0_0) main_arg0
  let main_v1 : FVec F S16x8x128 .f32 := shapeCast S16x8x128 main_v0 shapeCasts_S16x8x128x1_S16x8x128
  let main_cst : FVec F S_ .f32 := constant S_ .f32 0x3B808081#32
  let main_v2 : FVec F S16x8x128 .f32 := broadcastInDim S16x8x128 ![] bcast_S_S16x8x128 main_cst
  let main_v3 : FVec F S16x8x128 .f32 := Host.divf main_v1 main_v2
  let main_cst_0 : FVec F S_ .f32 := constant S_ .f32 0x00000000#32
  let main_v4 : FVec F S16x8x128 .f32 := broadcastInDim S16x8x128 ![] bcast_S_S16x8x128 main_cst_0
  let main_v5 : IVec S16x8x128 1 := cmpf .ogt main_v3 main_v4
  let main_cst_1 : FVec F S_ .f32 := constant S_ .f32 0x4E6E6B28#32
  let main_v6 : FVec F S16x8x128 .f32 := broadcastInDim S16x8x128 ![] bcast_S_S16x8x128 main_cst_1
  let main_v7 : FVec F S16x8x128 .f32 := select main_v5 main_v3 main_v6
  let main_v8 : FVec F S16x1 .f32 := (extractStridedSlice S16x1 ![0, 1] · slices_S16x2_S16x1_0_1) main_arg1
  let main_v9 : FVec F S16 .f32 := shapeCast S16 main_v8 shapeCasts_S16x1_S16
  let main_v10 : FVec F S16x1 .f32 := (extractStridedSlice S16x1 ![0, 0] · slices_S16x2_S16x1_0_0) main_arg1
  let main_v11 : FVec F S16 .f32 := shapeCast S16 main_v10 shapeCasts_S16x1_S16
  let main_v12 : FVec F S16 .f32 := subf main_v9 main_v11
  let main_cst_2 : FVec F S_ .f32 := constant S_ .f32 0x437F0000#32
  let main_v13 : FVec F S16 .f32 := broadcastInDim S16 ![] bcast_S_S16 main_cst_2
  let main_v14 : FVec F S16 .f32 := Host.divf main_v12 main_v13
  let main_v15 : FVec F S16x8x128x1 .f32 := (extractStridedSlice S16x8x128x1 ![0, 0, 0, 1] · slices_S16x8x128x2_S16x8x128x1_0_0_0_1) main_arg0
  let main_v16 : FVec F S16x8x128 .f32 := shapeCast S16x8x128 main_v15 shapeCasts_S16x8x128x1_S16x8x128
  let main_v17 : FVec F S16x1 .f32 := (extractStridedSlice S16x1 ![0, 0] · slices_S16x2_S16x1_0_0) main_arg1
  let main_v18 : FVec F S16 .f32 := shapeCast S16 main_v17 shapeCasts_S16x1_S16
  let main_v19 : FVec F S16x1x1 .f32 := broadcastInDim S16x1x1 ![0] bcast_S16_S16x1x1_0 main_v18
  fn_part1 (F := F) main_v7 main_v14 main_v16 main_v19
-- ==== Kernel.lean ====
abbrev S16x8x128x2 : Shape := ⟨4, ![16, 8, 128, 2]⟩
abbrev S16x2 : Shape := ⟨2, ![16, 2]⟩
abbrev S128x128x2 : Shape := ⟨3, ![128, 128, 2]⟩
abbrev S16x1x2 : Shape := ⟨3, ![16, 1, 2]⟩
abbrev S128x256x512 : Shape := ⟨3, ![128, 256, 512]⟩
abbrev S8x256x512 : Shape := ⟨3, ![8, 256, 512]⟩
abbrev S128x256 : Shape := ⟨2, ![128, 256]⟩
abbrev S1x256 : Shape := ⟨2, ![1, 256]⟩
abbrev S256x256 : Shape := ⟨2, ![256, 256]⟩
abbrev S1x128x2 : Shape := ⟨3, ![1, 128, 2]⟩
abbrev S128x2 : Shape := ⟨2, ![128, 2]⟩
abbrev S128x1 : Shape := ⟨2, ![128, 1]⟩
abbrev S1x1x1 : Shape := ⟨3, ![1, 1, 1]⟩
abbrev S256 : Shape := ⟨1, ![256]⟩
abbrev S8x256 : Shape := ⟨2, ![8, 256]⟩
abbrev S256x8 : Shape := ⟨2, ![256, 8]⟩
abbrev S256x1 : Shape := ⟨2, ![256, 1]⟩
abbrev S1x1 : Shape := ⟨2, ![1, 1]⟩
abbrev S255x1 : Shape := ⟨2, ![255, 1]⟩
abbrev S256x512 : Shape := ⟨2, ![256, 512]⟩
abbrev S1x256x512 : Shape := ⟨3, ![1, 256, 512]⟩

abbrev nBuf : Space → Nat
  | .hbm => 5
  | .vmem => 4
  | .smem => 0
  | _ => 0

abbrev bufTy : (tb : Table) → Fin (tcTables nBuf tb) → BufTy
  | .hbm, ⟨0, _⟩ => ⟨S16x8x128x2, .f32⟩
  | .hbm, ⟨1, _⟩ => ⟨S16x2, .f32⟩
  | .hbm, ⟨2, _⟩ => ⟨S128x128x2, .f32⟩
  | .hbm, ⟨3, _⟩ => ⟨S16x1x2, .f32⟩
  | .hbm, ⟨4, _⟩ => ⟨S128x256x512, .f32⟩
  | .local _ .vmem, ⟨0, _⟩ => ⟨S128x128x2, .f32⟩
  | .local _ .vmem, ⟨1, _⟩ => ⟨S16x1x2, .f32⟩
  | .local _ .vmem, ⟨2, _⟩ => ⟨S8x256x512, .f32⟩
  | .local _ .vmem, ⟨3, _⟩ => ⟨S8x256x512, .f32⟩
  | _, _ => ⟨S16x8x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 3 → Nat :=
  let arg0 : BitVec 32 := BitVec.ofNat 32 (i 0).val
  let c8_i32 : BitVec 32 := 8#32
  let v6 : BitVec 32 := Scalar.muli arg0 c8_i32
  let v7 : BitVec 32 := Scalar.addi v6 c0_i32
  let v8 : Index := Scalar.indexCast v7
  let c0 : Index := 0#32
  let c0_0 : Index := 0#32
  ![v8.toNat, 0, 0]
def k0_off2 (i : grid0.Coords) (c0_i32 : BitVec 32) : Fin 3 → Nat :=
  let arg0 : BitVec 32 := BitVec.ofNat 32 (i 0).val
  let c8_i32 : BitVec 32 := 8#32
  let v6 : BitVec 32 := Scalar.muli arg0 c8_i32
  let v7 : BitVec 32 := Scalar.addi v6 c0_i32
  let c0_i32_2 : BitVec 32 := 0#32
  let v14 : BitVec 1 := Scalar.cmpi .sgt v7 c0_i32_2
  let v15 : BitVec 32 := Scalar.extui v14
  let c0_i32_3 : BitVec 32 := 0#32
  let v16 : BitVec 1 := Scalar.cmpi .slt v7 c0_i32_3
  let v17 : BitVec 32 := Scalar.extui v16
  let v18 : BitVec 32 := Scalar.subi v15 v17
  let c8_i32_1 : BitVec 32 := 8#32
  let c0_i32_4 : BitVec 32 := 0#32
  let v19 : BitVec 1 := Scalar.cmpi .sgt c8_i32_1 c0_i32_4
  let v20 : BitVec 32 := Scalar.extui v19
  let c0_i32_5 : BitVec 32 := 0#32
  let v21 : BitVec 1 := Scalar.cmpi .slt c8_i32_1 c0_i32_5
  let v22 : BitVec 32 := Scalar.extui v21
  let v23 : BitVec 32 := Scalar.subi v20 v22
  let v24 : BitVec 1 := Scalar.cmpi .ne v18 v23
  let v25 : BitVec 32 := Scalar.remsi v7 c8_i32_1
  let c0_i32_6 : BitVec 32 := 0#32
  let v26 : BitVec 1 := Scalar.cmpi .ne v25 c0_i32_6
  let v27 : BitVec 1 := Scalar.andi v24 v26
  let v13 : BitVec 32 := Scalar.divsi v7 c8_i32_1
  let c1_i32 : BitVec 32 := 1#32
  let v28 : BitVec 32 := Scalar.subi v13 c1_i32
  let v29 : BitVec 32 := Scalar.select v27 v28 v13
  let v30 : Index := Scalar.indexCast v29
  let c0_7 : Index := 0#32
  let c0_8 : Index := 0#32
  ![v30.toNat, 0, 0]
def k0_off3 (i : grid0.Coords) (c0_i32 : BitVec 32) : Fin 3 → Nat :=
  let arg0 : BitVec 32 := BitVec.ofNat 32 (i 0).val
  let c8_i32 : BitVec 32 := 8#32
  let v6 : BitVec 32 := Scalar.muli arg0 c8_i32
  let v7 : BitVec 32 := Scalar.addi v6 c0_i32
  let c0_i32_2 : BitVec 32 := 0#32
  let v14 : BitVec 1 := Scalar.cmpi .sgt v7 c0_i32_2
  let v15 : BitVec 32 := Scalar.extui v14
  let c0_i32_3 : BitVec 32 := 0#32
  let v16 : BitVec 1 := Scalar.cmpi .slt v7 c0_i32_3
  let v17 : BitVec 32 := Scalar.extui v16
  let v18 : BitVec 32 := Scalar.subi v15 v17
  let c8_i32_1 : BitVec 32 := 8#32
  let c0_i32_4 : BitVec 32 := 0#32
  let v19 : BitVec 1 := Scalar.cmpi .sgt c8_i32_1 c0_i32_4
  let v20 : BitVec 32 := Scalar.extui v19
  let c0_i32_5 : BitVec 32 := 0#32
  let v21 : BitVec 1 := Scalar.cmpi .slt c8_i32_1 c0_i32_5
  let v22 : BitVec 32 := Scalar.extui v21
  let v23 : BitVec 32 := Scalar.subi v20 v22
  let v24 : BitVec 1 := Scalar.cmpi .ne v18 v23
  let v25 : BitVec 32 := Scalar.remsi v7 c8_i32_1
  let c0_i32_6 : BitVec 32 := 0#32
  let v26 : BitVec 1 := Scalar.cmpi .ne v25 c0_i32_6
  let v27 : BitVec 1 := Scalar.andi v24 v26
  let v13 : BitVec 32 := Scalar.divsi v7 c8_i32_1
  let c1_i32 : BitVec 32 := 1#32
  let v28 : BitVec 32 := Scalar.subi v13 c1_i32
  let v29 : BitVec 32 := Scalar.select v27 v28 v13
  let v33 : Index := Scalar.indexCast v29
  let c0_9 : Index := 0#32
  let c1 : Index := 1#32
  ![v33.toNat, 0, 1]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "near" => some ((367756565 / 536870912 : ℝ) : EReal)
  | "past" => some ⊤
  | _ => none
-- ==== ReferenceIdeal.lean ====
abbrev S16x8x128x2 : Shape := ⟨4, ![16, 8, 128, 2]⟩
abbrev S16x2 : Shape := ⟨2, ![16, 2]⟩
abbrev S16x8x128x1 : Shape := ⟨4, ![16, 8, 128, 1]⟩
abbrev S16x8x128 : Shape := ⟨3, ![16, 8, 128]⟩
abbrev S_ : Shape := ⟨0, ![]⟩
abbrev S16x1 : Shape := ⟨2, ![16, 1]⟩
abbrev S16 : Shape := ⟨1, ![16]⟩
abbrev S16x1x1 : Shape := ⟨3, ![16, 1, 1]⟩
abbrev S128x128 : Shape := ⟨2, ![128, 128]⟩
abbrev S256 : Shape := ⟨1, ![256]⟩
abbrev S128 : Shape := ⟨1, ![128]⟩
abbrev S128x1 : Shape := ⟨2, ![128, 1]⟩
abbrev S128x1x128 : Shape := ⟨3, ![128, 1, 128]⟩
abbrev S1x256x1 : Shape := ⟨3, ![1, 256, 1]⟩
abbrev S128x256x128 : Shape := ⟨3, ![128, 256, 128]⟩
abbrev S128x256 : Shape := ⟨2, ![128, 256]⟩
abbrev S128x256x1 : Shape := ⟨3, ![128, 256, 1]⟩
abbrev S128x256x2 : Shape := ⟨3, ![128, 256, 2]⟩
abbrev S1x256 : Shape := ⟨2, ![1, 256]⟩
abbrev S128x65536 : Shape := ⟨2, ![128, 65536]⟩
abbrev S16x8x256x256 : Shape := ⟨4, ![16, 8, 256, 256]⟩
abbrev S512 : Shape := ⟨1, ![512]⟩
abbrev S512x1 : Shape := ⟨2, ![512, 1]⟩
abbrev S16x8x512x256 : Shape := ⟨4, ![16, 8, 512, 256]⟩
abbrev S256x1 : Shape := ⟨2, ![256, 1]⟩
abbrev S1x1x1x256 : Shape := ⟨4, ![1, 1, 1, 256]⟩
abbrev S1x1x512x1 : Shape := ⟨4, ![1, 1, 512, 1]⟩
abbrev S128x256x512 : Shape := ⟨3, ![128, 256, 512]⟩

abbrev nBuf : Space → Nat
  | .hbm => 239
  | .vmem => 0
  | .smem => 0
  | _ => 0

abbrev hbmTy0_0 (i : Nat) : BufTy := match i % 128 with
  | 0 => ⟨S16x8x128x2, .f32⟩
  | 1 => ⟨S16x2, .f32⟩
  | 2 => ⟨S16x8x128x1, .f32⟩
  | 3 => ⟨S16x8x128, .f32⟩
  | 4 => ⟨S_, .f32⟩
  | 5 => ⟨S16x8x128, .f32⟩
  | 6 => ⟨S16x8x128, .f32⟩
  | 7 => ⟨S_, .f32⟩
  | 8 => ⟨S16x8x128, .f32⟩
  | 9 => ⟨S16x8x128, .f32⟩
  | 10 => ⟨S16x1, .f32⟩
  | 11 => ⟨S16, .f32⟩
  | 12 => ⟨S16x1x1, .f32⟩
  | 13 => ⟨S16x1, .f32⟩
  | 14 => ⟨S16, .f32⟩
  | 15 => ⟨S16x1x1, .f32⟩
  | 16 => ⟨S16x1x1, .f32⟩
  | 17 => ⟨S_, .f32⟩
  | 18 => ⟨S16x1x1, .f32⟩
  | 19 => ⟨S16x1x1, .f32⟩
  | 20 => ⟨S16x8x128x1, .f32⟩
  | 21 => ⟨S16x8x128, .f32⟩
  | 22 => ⟨S16x8x128, .f32⟩
  | 23 => ⟨S16x8x128, .f32⟩
  | 24 => ⟨S16x8x128, .f32⟩
  | 25 => ⟨S16x8x128, .f32⟩
  | 26 => ⟨S128x128, .f32⟩
  | 27 => ⟨S128x128, .f32⟩
  | 28 => ⟨S_, .f32⟩
  | 29 => ⟨S128x128, .f32⟩
  | 30 => ⟨S128x128, .i1⟩
  | 31 => ⟨S_, .f32⟩
  | 32 => ⟨S_, .f32⟩
  | 33 => ⟨S128x128, .f32⟩
  | 34 => ⟨S128x128, .f32⟩
  | 35 => ⟨S128x128, .f32⟩
  | 36 => ⟨S128x128, .f32⟩
  | 37 => ⟨S256, .f32⟩
  | 38 => ⟨S128, .i32⟩
  | 39 => ⟨S128x1, .i32⟩
  | 40 => ⟨S128x1x128, .f32⟩
  | 41 => ⟨S1x256x1, .f32⟩
  | 42 => ⟨S128x256x128, .f32⟩
  | 43 => ⟨S128x256x128, .f32⟩
  | 44 => ⟨S128x256x128, .i1⟩
  | 45 => ⟨S128x256x128, .i32⟩
  | 46 => ⟨S_, .i32⟩
  | 47 => ⟨S128x256, .i32⟩
  | 48 => ⟨S_, .i32⟩
  | 49 => ⟨S_, .i32⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i32⟩
  | 56 => ⟨S_, .i32⟩
  | 57 => ⟨S128x256, .i32⟩
  | 58 => ⟨S128x256, .i32⟩
  | 59 => ⟨S128x256, .i32⟩
  | 60 => ⟨S128x256x1, .i32⟩
  | 61 => ⟨S128x256x1, .i32⟩
  | 62 => ⟨S128x256x2, .i32⟩
  | 63 => ⟨S128x256, .f32⟩
  | 64 => ⟨S128x256, .i32⟩
  | 65 => ⟨S128x256x1, .i32⟩
  | 66 => ⟨S128x256x1, .i32⟩
  | 67 => ⟨S128x256x2, .i32⟩
  | 68 => ⟨S128x256, .f32⟩
  | 69 => ⟨S_, .i32⟩
  | 70 => ⟨S128x256, .i32⟩
  | 71 => ⟨S128x256, .i32⟩
  | 72 => ⟨S128x256, .i32⟩
  | 73 => ⟨S128x256x1, .i32⟩
  | 74 => ⟨S128x256x1, .i32⟩
  | 75 => ⟨S128x256x2, .i32⟩
  | 76 => ⟨S128x256, .f32⟩
  | 77 => ⟨S128x256, .i32⟩
  | 78 => ⟨S128x256x1, .i32⟩
  | 79 => ⟨S128x256x1, .i32⟩
  | 80 => ⟨S128x256x2, .i32⟩
  | 81 => ⟨S128x256, .f32⟩
  | 82 => ⟨S128x256, .f32⟩
  | 83 => ⟨S128x256, .f32⟩
  | 84 => ⟨S1x256, .f32⟩
  | 85 => ⟨S128x256, .f32⟩
  | 86 => ⟨S128x256, .f32⟩
  | 87 => ⟨S128x256, .f32⟩
  | 88 => ⟨S_, .f32⟩
  | 89 => ⟨S128x256, .f32⟩
  | 90 => ⟨S128x256, .i1⟩
  | 91 => ⟨S_, .f32⟩
  | 92 => ⟨S_, .f32⟩
  | 93 => ⟨S128x256, .f32⟩
  | 94 => ⟨S128x256, .f32⟩
  | 95 => ⟨S128x256, .f32⟩
  | 96 => ⟨S128x256, .f32⟩
  | 97 => ⟨S128x256, .f32⟩
  | 98 => ⟨S128x256, .f32⟩
  | 99 => ⟨S1x256, .f32⟩
  | 100 => ⟨S128x1, .f32⟩
  | 101 => ⟨S128x256, .f32⟩
  | 102 => ⟨S128x256, .f32⟩
  | 103 => ⟨S128x256, .i1⟩
  | 104 => ⟨S128x1, .f32⟩
  | 105 => ⟨S128x256, .f32⟩
  | 106 => ⟨S128x256, .f32⟩
  | 107 => ⟨S1x256, .f32⟩
  | 108 => ⟨S128x1, .f32⟩
  | 109 => ⟨S128x256, .f32⟩
  | 110 => ⟨S128x256, .f32⟩
  | 111 => ⟨S128x256, .i1⟩
  | 112 => ⟨S128x1, .f32⟩
  | 113 => ⟨S128x256, .f32⟩
  | 114 => ⟨S128x256, .f32⟩
  | 115 => ⟨S128x256, .f32⟩
  | 116 => ⟨S_, .i32⟩
  | 117 => ⟨S_, .i32⟩
  | 118 => ⟨S_, .f32⟩
  | 119 => ⟨S128x256, .f32⟩
  | 120 => ⟨S128x256, .f32⟩
  | 121 => ⟨S_, .f32⟩
  | 122 => ⟨S128x256, .f32⟩
  | 123 => ⟨S128x256, .f32⟩
  | 124 => ⟨S128x256, .i32⟩
  | 125 => ⟨S128, .i32⟩
  | 126 => ⟨S128x1, .i32⟩
  | 127 => ⟨S256, .i32⟩
  | _ => ⟨S16x8x128x2, .f32⟩

abbrev hbmTy0_1 (i : Nat) : BufTy := match i % 128 with
  | 0 => ⟨S1x256, .i32⟩
  | 1 => ⟨S_, .i32⟩
  | 2 => ⟨S1x256, .i32⟩
  | 3 => ⟨S1x256, .i32⟩
  | 4 => ⟨S128x256, .i32⟩
  | 5 => ⟨S128x256, .i32⟩
  | 6 => ⟨S_, .f32⟩
  | 7 => ⟨S128x65536, .f32⟩
  | 8 => ⟨S128x256, .i32⟩
  | 9 => ⟨S128x256x1, .i32⟩
  | 10 => ⟨S128x256x1, .i32⟩
  | 11 => ⟨S128x256x2, .i32⟩
  | 12 => ⟨S_, .f32⟩
  | 13 => ⟨S128x256, .f32⟩
  | 14 => ⟨S128x65536, .f32⟩
  | 15 => ⟨S16x8x256x256, .f32⟩
  | 16 => ⟨S512, .f32⟩
  | 17 => ⟨S_, .f32⟩
  | 18 => ⟨S512, .f32⟩
  | 19 => ⟨S512, .f32⟩
  | 20 => ⟨S_, .f32⟩
  | 21 => ⟨S512, .f32⟩
  | 22 => ⟨S512, .f32⟩
  | 23 => ⟨S_, .f32⟩
  | 24 => ⟨S512, .f32⟩
  | 25 => ⟨S512, .f32⟩
  | 26 => ⟨S_, .f32⟩
  | 27 => ⟨S512, .f32⟩
  | 28 => ⟨S512, .f32⟩
  | 29 => ⟨S256, .f32⟩
  | 30 => ⟨S_, .f32⟩
  | 31 => ⟨S256, .f32⟩
  | 32 => ⟨S256, .f32⟩
  | 33 => ⟨S_, .f32⟩
  | 34 => ⟨S256, .f32⟩
  | 35 => ⟨S256, .f32⟩
  | 36 => ⟨S_, .f32⟩
  | 37 => ⟨S256, .f32⟩
  | 38 => ⟨S256, .f32⟩
  | 39 => ⟨S_, .f32⟩
  | 40 => ⟨S256, .f32⟩
  | 41 => ⟨S256, .f32⟩
  | 42 => ⟨S512, .f32⟩
  | 43 => ⟨S512, .i32⟩
  | 44 => ⟨S_, .i32⟩
  | 45 => ⟨S512, .i32⟩
  | 46 => ⟨S512, .i32⟩
  | 47 => ⟨S_, .i32⟩
  | 48 => ⟨S512, .i32⟩
  | 49 => ⟨S512, .i32⟩
  | 50 => ⟨S256, .f32⟩
  | 51 => ⟨S256, .i32⟩
  | 52 => ⟨S_, .i32⟩
  | 53 => ⟨S256, .i32⟩
  | 54 => ⟨S256, .i32⟩
  | 55 => ⟨S_, .i32⟩
  | 56 => ⟨S256, .i32⟩
  | 57 => ⟨S256, .i32⟩
  | 58 => ⟨S512, .f32⟩
  | 59 => ⟨S512, .f32⟩
  | 60 => ⟨S512x1, .f32⟩
  | 61 => ⟨S256, .f32⟩
  | 62 => ⟨S256, .f32⟩
  | 63 => ⟨S1x256, .f32⟩
  | 64 => ⟨S512x1, .i32⟩
  | 65 => ⟨S16x8x512x256, .f32⟩
  | 66 => ⟨S256x1, .i32⟩
  | 67 => ⟨S16x8x512x256, .f32⟩
  | 68 => ⟨S512x1, .i32⟩
  | 69 => ⟨S16x8x512x256, .f32⟩
  | 70 => ⟨S256x1, .i32⟩
  | 71 => ⟨S16x8x512x256, .f32⟩
  | 72 => ⟨S512x1, .i32⟩
  | 73 => ⟨S16x8x512x256, .f32⟩
  | 74 => ⟨S256x1, .i32⟩
  | 75 => ⟨S16x8x512x256, .f32⟩
  | 76 => ⟨S512x1, .i32⟩
  | 77 => ⟨S16x8x512x256, .f32⟩
  | 78 => ⟨S256x1, .i32⟩
  | 79 => ⟨S16x8x512x256, .f32⟩
  | 80 => ⟨S_, .f32⟩
  | 81 => ⟨S1x256, .f32⟩
  | 82 => ⟨S1x256, .f32⟩
  | 83 => ⟨S1x1x1x256, .f32⟩
  | 84 => ⟨S16x8x512x256, .f32⟩
  | 85 => ⟨S16x8x512x256, .f32⟩
  | 86 => ⟨S1x1x1x256, .f32⟩
  | 87 => ⟨S16x8x512x256, .f32⟩
  | 88 => ⟨S16x8x512x256, .f32⟩
  | 89 => ⟨S16x8x512x256, .f32⟩
  | 90 => ⟨S_, .f32⟩
  | 91 => ⟨S1x256, .f32⟩
  | 92 => ⟨S1x256, .f32⟩
  | 93 => ⟨S1x1x1x256, .f32⟩
  | 94 => ⟨S16x8x512x256, .f32⟩
  | 95 => ⟨S16x8x512x256, .f32⟩
  | 96 => ⟨S1x1x1x256, .f32⟩
  | 97 => ⟨S16x8x512x256, .f32⟩
  | 98 => ⟨S16x8x512x256, .f32⟩
  | 99 => ⟨S16x8x512x256, .f32⟩
  | 100 => ⟨S_, .f32⟩
  | 101 => ⟨S512x1, .f32⟩
  | 102 => ⟨S512x1, .f32⟩
  | 103 => ⟨S1x1x512x1, .f32⟩
  | 104 => ⟨S16x8x512x256, .f32⟩
  | 105 => ⟨S16x8x512x256, .f32⟩
  | 106 => ⟨S1x1x512x1, .f32⟩
  | 107 => ⟨S16x8x512x256, .f32⟩
  | 108 => ⟨S16x8x512x256, .f32⟩
  | 109 => ⟨S16x8x512x256, .f32⟩
  | 110 => ⟨S128x256x512, .f32⟩
  | _ => ⟨S16x8x128x2, .f32⟩

abbrev hbmTy (i : Nat) : BufTy := match i / 128 with
  | 0 => hbmTy0_0 i
  | 1 => hbmTy0_1 i
  | _ => ⟨S16x8x128x2, .f32⟩

abbrev bufTy : (tb : Table) → Fin (tcTables nBuf tb) → BufTy
  | .hbm, ⟨i, _⟩ => hbmTy i
  | _, _ => ⟨S16x8x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.hbm, 46, rfl⟩
abbrev main_v36 : Ref sig .tc := ⟨.hbm, 47, rfl⟩
abbrev main_c_4 : Ref sig .tc := ⟨.hbm, 48, rfl⟩
abbrev main_c_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_8 : Ref sig .tc := ⟨.hbm, 88, rfl⟩
abbrev main_v68 : Ref sig .tc := ⟨.hbm, 89, rfl⟩
abbrev main_v69 : Ref sig .tc := ⟨.hbm, 90, rfl⟩
abbrev main_cst_9 : Ref sig .tc := ⟨.hbm, 91, rfl⟩
abbrev main_call2_v0 : Ref sig .tc := ⟨.hbm, 92, rfl⟩
abbrev main_call2_v1 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call4_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call5_v0 : Ref sig .tc := ⟨.hbm, 113, rfl⟩
abbrev main_v88 : Ref sig .tc := ⟨.hbm, 114, rfl⟩
abbrev main_v89 : Ref sig .tc := ⟨.hbm, 115, rfl⟩
abbrev main_c_10 : Ref sig .tc := ⟨.hbm, 116, rfl⟩
abbrev main_c_11 : Ref sig .tc := ⟨.hbm, 117, rfl⟩
abbrev main_call7_v0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_call7_v4 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_12 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_13 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_14 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_15 : Ref sig .tc := ⟨.hbm, 145, rfl⟩
abbrev main_v109 : Ref sig .tc := ⟨.hbm, 146, rfl⟩
abbrev main_v110 : Ref sig .tc := ⟨.hbm, 147, rfl⟩
abbrev main_cst_16 : Ref sig .tc := ⟨.hbm, 148, rfl⟩
abbrev main_v111 : Ref sig .tc := ⟨.hbm, 149, rfl⟩
abbrev main_v112 : Ref sig .tc := ⟨.hbm, 150, rfl⟩
abbrev main_cst_17 : Ref sig .tc := ⟨.hbm, 151, rfl⟩
abbrev main_v113 : Ref sig .tc := ⟨.hbm, 152, rfl⟩
abbrev main_v114 : Ref sig .tc := ⟨.hbm, 153, rfl⟩
abbrev main_cst_18 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_19 : Ref sig .tc := ⟨.hbm, 158, rfl⟩
abbrev main_v118 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_v121 : Ref sig .tc := ⟨.hbm, 163, rfl⟩
abbrev main_cst_21 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_23 : Ref sig .tc := ⟨.hbm, 172, rfl⟩
abbrev main_v128 : Ref sig .tc := ⟨.hbm, 173, rfl⟩
abbrev main_v129 : Ref sig .tc := ⟨.hbm, 174, rfl⟩
abbrev main_c_24 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_c_25 : Ref sig .tc := ⟨.hbm, 180, rfl⟩
abbrev main_v134 : Ref sig .tc := ⟨.hbm, 181, rfl⟩
abbrev main_v135 : Ref sig .tc := ⟨.hbm, 182, rfl⟩
abbrev main_c_26 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_27 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_28 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_29 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩

abbrev nD : Nat := 1
abbrev τ : Topo := Topo.v7x

variable {F : FTy → Type} [FloatOps F]
-- ==== Proof.KernelOut.lean ====
module
public import proofs.«01_k».proof.Proof.Gen.KernelIdeal.Value
public import Idealize.ShloMosaic.Lib.Pipeline.ValueKit
@[expose] public section
set_option maxRecDepth 16384

noncomputable section
open Idealize.ShloMosaic Idealize.ShloMosaic.TcCoe Idealize.SL.Sem
open Idealize.ShloMosaic.Pipeline (Dat)

namespace Cert.KernelIdeal.Val
open Cert.KernelIdeal Cert.KernelIdeal.Gen

/-- The row of column indices one curve is drawn at: the kernel's computation of curve 0, as a function of the
    curve's points and of the two ends of its velocity range. -/
def vq (p : FVec Ideal S1x128x2 .f32) (a b : FVec Ideal S1x1x1 .f32) : IVec S1x256 32 :=
  k0_pay17 (k0_pay12 k0_pay2 (k0_pay6 (F := Ideal) p))
    (k0_pay13 k0_pay2 (iota Kind.tc S128x256 32 [0] iota_S128x256_d0_w32) (k0_pay6 (F := Ideal) p) (k0_pay7 (F := Ideal) a b) (k0_pay8 (F := Ideal) p a))
    (k0_pay14 k0_pay2 (k0_pay6 (F := Ideal) p))
    (k0_pay15 k0_pay2 (iota Kind.tc S128x256 32 [0] iota_S128x256_d0_w32) (k0_pay6 (F := Ideal) p) (k0_pay7 (F := Ideal) a b) (k0_pay8 (F := Ideal) p a))
    (k0_pay16 k0_pay2 k0_pay3 (k0_pay6 (F := Ideal) p))

/-- The picture of one curve from its row of column indices: the kernel's computation of curve 0. -/
def slab (r : IVec S1x256 32) : FVec Ideal S1x256x512 .f32 :=
  k0_pay99 (iota Kind.tc S256x256 32 [1] iota_S256x256_d1_w32) (k0_pay91 r)

/-- The points of curve `q`. -/
def pts (X : FVec Ideal S16x8x128x2 .f32) (q : Fin 128) : FVec Ideal S1x128x2 .f32 :=
  fun k => X (ix4 ⟨q.val / 8, by omega⟩ ⟨q.val % 8, by omega⟩ (k 1) (k 2))

/-- One end (`e = 0` the lower, `e = 1` the upper) of the velocity range of curve `q`. -/
def rng (M : FVec Ideal S16x2 .f32) (q : Fin 128) (e : Fin 2) : FVec Ideal S1x1x1 .f32 :=
  fun _ => M (ix2 ⟨q.val / 8, by omega⟩ e)

/-- The kernel's result as a function of its two arguments. -/
def out (X : FVec Ideal S16x8x128x2 .f32) (M : FVec Ideal S16x2 .f32) : FVec Ideal S128x256x512 .f32 :=
  fun j => slab (vq (pts X (j 0)) (rng M (j 0) 0) (rng M (j 0) 1)) (ix3 0 (j 1) (j 2))

variable (m : (ℓ : Loc nD τ sig) → Buf (Elt Ideal) ℓ)

/-- At step `t` the result window is the `t`-th block of 8 curves; both arguments are whole. -/
theorem idx : ∀ t : Fin cfg0.N, win0_2.index t = ![t.val, 0, 0] ∧ win0_0.index t = ![0, 0, 0] ∧ win0_1.index t = ![0, 0, 0] :=
  (by decide +kernel : ∀ t : Fin grid0.N, _)

/-- Where grid point `t` reads the points and the range of its curve `k`. -/
theorem offs : ∀ (t : Fin cfg0.N) (k : Fin 8), k0_off1 (grid0.coords t) (BitVec.ofNat 32 k.val) = ![8 * t.val + k.val, 0, 0]
    ∧ k0_off2 (grid0.coords t) (BitVec.ofNat 32 k.val) = ![t.val, 0, 0]
    ∧ k0_off3 (grid0.coords t) (BitVec.ofNat 32 k.val) = ![t.val, 0, 1] :=
  (by decide +kernel : ∀ (t : Fin grid0.N) (k : Fin 8), _)

/-- The block of points every grid point is given is the whole array of points. -/
theorem iblk0 (c : Dev nD) (t : Fin cfg0.N) (a b : Fin 128) (d : Fin 2) : iblk m c 0 t (ix3 a b d)
    = m ((c : Thread nD τ).loc main_arg0) (ix4 (⟨a.val / 8, by omega⟩ : Fin 16) (⟨a.val % 8, by omega⟩ : Fin 8) b d) := by
  have e : iblk m c 0 t = V m c main_v0 := by blk_ext! [iblk, idx t]
  rw [e]
  entry_read
  pointwise

/-- The block of ranges every grid point is given is the whole array of ranges. -/
theorem iblk1 (c : Dev nD) (t : Fin cfg0.N) (a : Fin 16) (d : Fin 2) : iblk m c 1 t (ix3 a (0 : Fin 1) d)
    = m ((c : Thread nD τ).loc main_arg1) (ix2 a d) := by
  have e : iblk m c 1 t = V m c main_v1 := by blk_ext! [iblk, idx t]
  rw [e]
  entry_read
  pointwise

/-- What the step stores for curve `k` of its block is `out` at that curve. -/
theorem tile (c : Dev nD) (t : Fin cfg0.N) (k : Fin 8) (x : S1x256x512.Idx) (j : S128x256x512.Idx)
    (h0 : (j 0 : ℕ) = 8 * t.val + k.val) (h1 : (j 1 : ℕ) = x 1) (h2 : (j 2 : ℕ) = x 2) (o1 o2 o3)
    (e1 : o1 = ![8 * t.val + k.val, 0, 0]) (e2 : o2 = ![t.val, 0, 0]) (e3 : o3 = ![t.val, 0, 1]) (i1 i2 i3) :
    slab (vq (View.ld (iblk m c 0 t) (Rect.unit (s := S128x128x2) o1 ![1, 128, 2] i1))
      (View.ld (iblk m c 1 t) (Rect.unit (s := S16x1x2) o2 ![1, 1, 1] i2))
      (View.ld (iblk m c 1 t) (Rect.unit (s := S16x1x2) o3 ![1, 1, 1] i3))) x
      = out (m ((c : Thread nD τ).loc main_arg0)) (m ((c : Thread nD τ).loc main_arg1)) j := by
  subst e1 e2 e3
  have ht : t.val < 16 := lt_of_lt_of_eq t.isLt N_0
  have a1 : (View.ld (iblk m c 0 t) (Rect.unit (s := S128x128x2) ![8 * t.val + k.val, 0, 0] ![1, 128, 2] i1) : FVec Ideal S1x128x2 .f32)
      = pts (m ((c : Thread nD τ).loc main_arg0)) (j 0) := by
    funext y
    unfold pts
    pointwise
    refine (iblk0 m c t _ _ _).trans ?_
    blk_ext
  have a2 : (View.ld (iblk m c 1 t) (Rect.unit (s := S16x1x2) ![t.val, 0, 0] ![1, 1, 1] i2) : FVec Ideal S1x1x1 .f32)
      = rng (m ((c : Thread nD τ).loc main_arg1)) (j 0) 0 := by
    funext y
    unfold rng
    pointwise
    refine (iblk1 m c t _ _).trans ?_
    blk_ext
  have a3 : (View.ld (iblk m c 1 t) (Rect.unit (s := S16x1x2) ![t.val, 0, 1] ![1, 1, 1] i3) : FVec Ideal S1x1x1 .f32)
      = rng (m ((c : Thread nD τ).loc main_arg1)) (j 0) 1 := by
    funext y
    unfold rng
    pointwise
    refine (iblk1 m c t _ _).trans ?_
    blk_ext
  unfold out
  rw [a1, a2, a3]
  congr 1
  funext a
  fin_cases a
  · exact Fin.ext (by have := (x 0).isLt; simpa using this)
  · exact Fin.ext h1.symm
  · exact Fin.ext h2.symm

/-- The kernel's result array after the run. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  canon_tiles x h
  case piece0 =>
    exact tile m c t 7 x _ (by blk_simp [idx t]; omega) (by blk_simp [idx t]; omega) (by blk_simp [idx t]; omega)
      _ _ _ (offs t 7).1 (offs t 7).2.1 (offs t 7).2.2 _ _ _
  case piece1 =>
    exact tile m c t 6 x _ (by blk_simp [idx t]; omega) (by blk_simp [idx t]; omega) (by blk_simp [idx t]; omega)
      _ _ _ (offs t 6).1 (offs t 6).2.1 (offs t 6).2.2 _ _ _
  case piece2 =>
    exact tile m c t 5 x _ (by blk_simp [idx t]; omega) (by blk_simp [idx t]; omega) (by blk_simp [idx t]; omega)
      _ _ _ (offs t 5).1 (offs t 5).2.1 (offs t 5).2.2 _ _ _
  case piece3 =>
    exact tile m c t 4 x _ (by blk_simp [idx t]; omega) (by blk_simp [idx t]; omega) (by blk_simp [idx t]; omega)
      _ _ _ (offs t 4).1 (offs t 4).2.1 (offs t 4).2.2 _ _ _
  case piece4 =>
    exact tile m c t 3 x _ (by blk_simp [idx t]; omega) (by blk_simp [idx t]; omega) (by blk_simp [idx t]; omega)
      _ _ _ (offs t 3).1 (offs t 3).2.1 (offs t 3).2.2 _ _ _
  case piece5 =>
    exact tile m c t 2 x _ (by blk_simp [idx t]; omega) (by blk_simp [idx t]; omega) (by blk_simp [idx t]; omega)
      _ _ _ (offs t 2).1 (offs t 2).2.1 (offs t 2).2.2 _ _ _
  case piece6 =>
    exact tile m c t 1 x _ (by blk_simp [idx t]; omega) (by blk_simp [idx t]; omega) (by blk_simp [idx t]; omega)
      _ _ _ (offs t 1).1 (offs t 1).2.1 (offs t 1).2.2 _ _ _
  case piece7 =>
    exact tile m c t 0 x _ (by blk_simp [idx t]; omega) (by blk_simp [idx t]; omega) (by blk_simp [idx t]; omega)
      _ _ _ (offs t 0).1 (offs t 0).2.1 (offs t 0).2.2 _ _ _

end Cert.KernelIdeal.Val
end
-- ==== Proof.Interp.lean ====
/-
  Two readings of a piecewise linear curve through unsorted points `(T x, V x)` at an integer grid position `q`, over the
  extended reals: the one by neighbours (the largest `T` at most `q` and the least one above it, found by maxima and minima), and
  the one by a stable sort of the points and a count of those at most `q`.
-/
module
public import Idealize.ShloMosaic.Lib.Pointwise
public import Idealize.ShloMosaic.Lib.ValueIdx
@[expose] public section

noncomputable section
open Idealize.ShloMosaic

namespace Cert.Interp

/-- The largest abscissa at most `q`; `g` when there is none. -/
def lo (T : Fin 128 → EReal) (q g : EReal) : EReal :=
  Finset.fold max ⊥ (fun x => if T x ≤ q then T x else g) Finset.univ

/-- The least abscissa above `q`; `⊤` when there is none. -/
def hi (T : Fin 128 → EReal) (q : EReal) : EReal :=
  Finset.fold min ⊤ (fun x => if T x ≤ q then ⊤ else T x) Finset.univ

/-- The last position at which `T` is `t`, as a word; `-1` when there is none. -/
def lastAt (T : Fin 128 → EReal) (t : EReal) : BitVec 32 :=
  Finset.fold IntOp.maxsi 2147483648#32 (fun x => if T x = t then BitVec.ofNat 32 x.val else 4294967295#32) Finset.univ

/-- The first position at which `T` is `t`, as a word; `129` when there is none. -/
def firstAt (T : Fin 128 → EReal) (t : EReal) : BitVec 32 :=
  Finset.fold IntOp.minsi 2147483647#32 (fun x => if T x = t then BitVec.ofNat 32 x.val else 129#32) Finset.univ

/-- The ordinate at the position `w` names. -/
def pick (V : Fin 128 → EReal) (w : BitVec 32) : EReal :=
  ∑ x : Fin 128, if BitVec.ofNat 32 x.val = w then V x else 0

/-- The curve at `q` by its neighbours. -/
def near (T V : Fin 128 → EReal) (q g : EReal) : EReal :=
  if lo T q g = g then pick V (firstAt T (hi T q))
  else if hi T q = ⊤ then pick V (lastAt T (lo T q g))
  else pick V (lastAt T (lo T q g))
    + Ideal.div (q - lo T q g) (hi T q - lo T q g) * (pick V (firstAt T (hi T q)) - pick V (lastAt T (lo T q g)))

/-- How many abscissae are at most `q`. -/
def cnt (T : Fin 128 → EReal) (q : EReal) : Nat := (Finset.univ.filter fun x => T x ≤ q).card

/-- The right neighbour's position in the sorted curve: the count, kept within `[1, 127]`. -/
def right (T : Fin 128 → EReal) (q : EReal) : Fin 128 := ⟨min 127 (max 1 (cnt T q)), by omega⟩

/-- The left neighbour's position in the sorted curve. -/
def left (T : Fin 128 → EReal) (q : EReal) : Fin 128 := ⟨min 127 (max 1 (cnt T q)) - 1, by omega⟩

/-- The curve at `q` by its sorted points `(xp, fp)`, `i` and `j` the left and right neighbours' positions: constant outside,
    the left ordinate where the step is at most `e`. -/
def sorted (xp fp : Fin 128 → EReal) (i j : Fin 128) (q e : EReal) : EReal :=
  if xp 127 < q then fp 127
  else if q < xp 0 then fp 0
  else if max (xp j - xp i) (-(xp j - xp i)) ≤ e then fp i
  else fp i + Ideal.div (q - xp i) (if max (xp j - xp i) (-(xp j - xp i)) ≤ e then 1 else xp j - xp i) * (fp j - fp i)

/-- `σ` lists the positions by increasing abscissa, equal ones in order. -/
def Lists (T : Fin 128 → EReal) (σ : Fin 128 → Fin 128) : Prop :=
  Function.Bijective σ ∧ ∀ a b, a < b → T (σ a) < T (σ b) ∨ (T (σ a) = T (σ b) ∧ σ a < σ b)

/-- Neighbours between which a grid line falls are more than `e` apart. -/
def Apart (T : Fin 128 → EReal) (e : EReal) : Prop :=
  ∀ i j, 255 < T i ∨ T j < Ideal.liftRound Int.ceil (T i) ∨ T j ≤ T i ∨ e < T j - T i

/-- When the greatest abscissa `t` lies on a grid line it belongs to one point and the ordinates are finite. -/
def Alone (T V : Fin 128 → EReal) (t : EReal) : Prop :=
  ∀ i j, 255 < t ∨ t ≠ Ideal.liftRound Int.floor t ∨ ((i = j ∨ T i ≠ t ∨ T j ≠ t) ∧ max (V i) (-(V i)) < ⊤)

section
variable {T V : Fin 128 → EReal} {σ : Fin 128 → Fin 128} {q : EReal}

/-- A sorted list goes up. -/
theorem Lists.le (hσ : Lists T σ) {a b : Fin 128} (h : a ≤ b) : T (σ a) ≤ T (σ b) := by
  rcases eq_or_lt_of_le h with rfl | h
  · exact le_rfl
  · rcases hσ.2 a b h with h | h
    · exact h.le
    · exact h.1.le

/-- The count does not depend on the order. -/
theorem Lists.cnt_eq (hσ : Lists T σ) : cnt T q = (Finset.univ.filter fun k => T (σ k) ≤ q).card := by
  unfold cnt
  refine (Finset.card_bij (fun k _ => σ k) ?_ ?_ ?_).symm
  · intro k hk; simpa using hk
  · intro a _ b _ h; exact hσ.1.1 h
  · intro x hx
    obtain ⟨k, rfl⟩ := hσ.1.2 x
    exact ⟨k, by simpa using hx, rfl⟩

/-- The sorted points at most `q` are the first `cnt T q`. -/
theorem Lists.le_iff (hσ : Lists T σ) (k : Fin 128) : T (σ k) ≤ q ↔ k.val < cnt T q := by
  rw [hσ.cnt_eq]
  constructor
  · intro h
    have hs : Finset.Iic k ⊆ Finset.univ.filter fun k => T (σ k) ≤ q := by
      intro j hj
      simp only [Finset.mem_filter, Finset.mem_univ, true_and]
      exact (hσ.le (Finset.mem_Iic.mp hj)).trans h
    have := Finset.card_le_card hs
    rw [Fin.card_Iic] at this
    omega
  · intro h
    by_contra hn
    have hs : (Finset.univ.filter fun k => T (σ k) ≤ q) ⊆ Finset.Iio k := by
      intro j hj
      simp only [Finset.mem_filter, Finset.mem_univ, true_and] at hj
      rw [Finset.mem_Iio]
      by_contra hkj
      exact hn ((hσ.le (not_lt.mp hkj)).trans hj)
    have := Finset.card_le_card hs
    rw [Fin.card_Iio] at this
    omega

/-- At most all 128 abscissae are counted. -/
theorem cnt_le : cnt T q ≤ 128 := by
  unfold cnt
  exact (Finset.card_le_univ _).trans (by simp)

/-- The word of a position selects its ordinate. -/
theorem pick_ofNat (x : Fin 128) : pick V (BitVec.ofNat 32 x.val) = V x := by
  unfold pick
  rw [Finset.sum_eq_single x]
  · simp
  · intro b _ hb
    rw [if_neg]
    intro h
    apply hb
    have := congrArg BitVec.toNat h
    rw [BitVec.toNat_ofNat, BitVec.toNat_ofNat, Nat.mod_eq_of_lt (by omega), Nat.mod_eq_of_lt (by omega)] at this
    exact Fin.ext this
  · simp

/-- A position as a word is the position. -/
theorem toInt_ofNat128 (x : Fin 128) : (BitVec.ofNat 32 x.val).toInt = (x.val : Int) := by
  rw [BitVec.toInt_eq_toNat_of_lt] <;> rw [BitVec.toNat_ofNat, Nat.mod_eq_of_lt (by omega)]
  omega

/-- The greater of two words, read as an integer. -/
theorem toInt_maxsi (a b : BitVec 32) : (IntOp.maxsi a b).toInt = max a.toInt b.toInt := by
  unfold IntOp.maxsi
  split <;> rename_i h <;> simp only [BitVec.slt, BitVec.sle, decide_eq_true_eq] at h <;> omega

/-- The lesser of two words, read as an integer. -/
theorem toInt_minsi (a b : BitVec 32) : (IntOp.minsi a b).toInt = min a.toInt b.toInt := by
  unfold IntOp.minsi
  split <;> rename_i h <;> simp only [BitVec.slt, BitVec.sle, decide_eq_true_eq] at h <;> omega

/-- The last position with abscissa `t`. -/
theorem lastAt_eq (t : EReal) (x : Fin 128) (hx : T x = t) (hlast : ∀ y, T y = t → y ≤ x) : lastAt T t = BitVec.ofNat 32 x.val := by
  apply BitVec.eq_of_toInt_eq
  unfold lastAt
  rw [← Finset.fold_hom (op' := max) (m := BitVec.toInt) (fun a b => toInt_maxsi a b), toInt_ofNat128]
  apply le_antisymm
  · rw [Finset.fold_max_le]
    refine ⟨by simp, fun y _ => ?_⟩
    split
    · rename_i h
      rw [toInt_ofNat128]
      exact_mod_cast hlast y h
    · have : (4294967295#32).toInt = -1 := by decide
      omega
  · rw [Finset.le_fold_max]
    right
    refine ⟨x, Finset.mem_univ _, ?_⟩
    rw [if_pos hx, toInt_ofNat128]

/-- The first position with abscissa `t`. -/
theorem firstAt_eq (t : EReal) (x : Fin 128) (hx : T x = t) (hfirst : ∀ y, T y = t → x ≤ y) : firstAt T t = BitVec.ofNat 32 x.val := by
  apply BitVec.eq_of_toInt_eq
  unfold firstAt
  rw [← Finset.fold_hom (op' := min) (m := BitVec.toInt) (fun a b => toInt_minsi a b), toInt_ofNat128]
  apply le_antisymm
  · rw [Finset.fold_min_le]
    right
    refine ⟨x, Finset.mem_univ _, ?_⟩
    rw [if_pos hx, toInt_ofNat128]
  · rw [Finset.le_fold_min]
    refine ⟨by have := x.isLt; simp; omega, fun y _ => ?_⟩
    split
    · rename_i h
      rw [toInt_ofNat128]
      exact_mod_cast hfirst y h
    · have : (129#32).toInt = 129 := by decide
      have := x.isLt
      omega

/-- Nothing at most `q`: the lower neighbour is the stand-in. -/
theorem lo_none (g : EReal) (h : ∀ x, ¬ T x ≤ q) : lo T q g = g := by
  unfold lo
  apply le_antisymm
  · rw [Finset.fold_max_le]
    exact ⟨bot_le, fun x _ => by rw [if_neg (h x)]⟩
  · rw [Finset.le_fold_max]
    exact Or.inr ⟨0, Finset.mem_univ _, by rw [if_neg (h 0)]⟩

/-- The lower neighbour. -/
theorem lo_eq (g : EReal) (x : Fin 128) (hg : g ≤ T x) (hx : T x ≤ q) (hmax : ∀ y, T y ≤ q → T y ≤ T x) : lo T q g = T x := by
  unfold lo
  apply le_antisymm
  · rw [Finset.fold_max_le]
    refine ⟨bot_le, fun y _ => ?_⟩
    split
    · rename_i h; exact hmax y h
    · exact hg
  · rw [Finset.le_fold_max]
    exact Or.inr ⟨x, Finset.mem_univ _, by rw [if_pos hx]⟩

/-- Nothing above `q`: the upper neighbour is `⊤`. -/
theorem hi_none (h : ∀ x, T x ≤ q) : hi T q = ⊤ := by
  unfold hi
  rw [← top_le_iff, Finset.le_fold_min]
  exact ⟨le_rfl, fun x _ => by rw [if_pos (h x)]⟩

/-- The upper neighbour. -/
theorem hi_eq (x : Fin 128) (hx : ¬ T x ≤ q) (hmin : ∀ y, ¬ T y ≤ q → T x ≤ T y) : hi T q = T x := by
  unfold hi
  apply le_antisymm
  · rw [Finset.fold_min_le]
    exact Or.inr ⟨x, Finset.mem_univ _, by rw [if_neg hx]⟩
  · rw [Finset.le_fold_min]
    refine ⟨le_top, fun y _ => ?_⟩
    split
    · exact le_top
    · rename_i h; exact hmin y h

end

/-- THE TWO READINGS AGREE at a grid position `q = z ∈ [0, 255]`, for abscissae above `g`, sorted by `σ`, that satisfy `Apart` and `Alone`. -/
theorem near_eq_sorted (T V : Fin 128 → EReal) (σ : Fin 128 → Fin 128) (z : ℤ) (hz0 : 0 ≤ z) (hz : z ≤ 255) (g e : EReal)
    (hg : ∀ x, g < T x) (he : 0 < e) (he' : e < ⊤) (hσ : Lists T σ) (ha : Apart T e) (hb : Alone T V (T (σ 127))) :
    near T V ((z : ℝ) : EReal) g
      = sorted (fun k => T (σ k)) (fun k => V (σ k)) (left T ((z : ℝ) : EReal)) (right T ((z : ℝ) : EReal)) ((z : ℝ) : EReal) e := by
  set q : EReal := ((z : ℝ) : EReal) with hq
  have hq255 : q ≤ 255 := by
    have : ((z : ℝ) : EReal) ≤ ((255 : ℝ) : EReal) := by
      rw [EReal.coe_le_coe_iff]; exact_mod_cast hz
    exact this
  have hceil : ∀ t : EReal, t ≤ q → Ideal.liftRound Int.ceil t ≤ q := by
    intro t ht
    induction t using EReal.rec with
    | bot => exact bot_le
    | top => exact ht
    | coe r =>
      rw [hq, EReal.coe_le_coe_iff] at ht
      rw [Ideal.liftRound_coe, hq, EReal.coe_le_coe_iff]
      exact_mod_cast Int.ceil_le.2 ht
  have hfloor : q = Ideal.liftRound Int.floor q := by
    rw [hq, Ideal.liftRound_coe, Int.floor_intCast]
  have hqtop : q ≠ ⊤ := EReal.coe_ne_top _
  have hgap : ∀ a b, T a ≤ q → q ≤ T b → T a < T b → Ideal.liftRound Int.ceil (T a) ≤ T b → e < T b - T a := by
    intro a b h1 h2 h3 h4
    rcases ha a b with h | h | h | h
    · exact absurd (h1.trans hq255) (not_le.2 h)
    · exact absurd h4 (not_le.2 h)
    · exact absurd h3 (not_lt.2 h)
    · exact h
  have habs : ∀ t : EReal, e < t → ¬ max t (-t) ≤ e := fun t h hn => absurd ((le_max_left _ _).trans hn) (not_le.2 h)
  -- the lower neighbour, when the count is positive
  have hlow : ∀ k : Fin 128, k.val + 1 = cnt T q → lo T q g = T (σ k) ∧ lo T q g ≠ g ∧ pick V (lastAt T (lo T q g)) = V (σ k) := by
    intro k hk
    have h1 : T (σ k) ≤ q := (hσ.le_iff k).2 (by omega)
    have hl : lo T q g = T (σ k) := lo_eq g (σ k) (hg _).le h1 fun y hy => by
      obtain ⟨j, rfl⟩ := hσ.1.2 y
      have := (hσ.le_iff j).1 hy
      exact hσ.le (Fin.le_def.2 (by omega))
    refine ⟨hl, by rw [hl]; exact (hg _).ne', ?_⟩
    rw [hl, lastAt_eq _ (σ k) rfl, pick_ofNat]
    intro y hy
    obtain ⟨j, rfl⟩ := hσ.1.2 y
    have hj := (hσ.le_iff j).1 (hy ▸ h1)
    rcases eq_or_lt_of_le (Fin.le_def.2 (by omega) : j ≤ k) with h | h
    · rw [h]
    · rcases hσ.2 j k h with h | h
      · exact absurd hy h.ne
      · exact h.2.le
  -- the upper neighbour, when the count is below 128
  have hhigh : ∀ k : Fin 128, k.val = cnt T q → hi T q = T (σ k) ∧ pick V (firstAt T (hi T q)) = V (σ k) := by
    intro k hk
    have h1 : ¬ T (σ k) ≤ q := fun h => by have := (hσ.le_iff k).1 h; omega
    have hl : hi T q = T (σ k) := hi_eq (σ k) h1 fun y hy => by
      obtain ⟨j, rfl⟩ := hσ.1.2 y
      have : ¬ j.val < cnt T q := fun h => hy ((hσ.le_iff j).2 h)
      exact hσ.le (Fin.le_def.2 (by omega))
    refine ⟨hl, ?_⟩
    rw [hl, firstAt_eq _ (σ k) rfl, pick_ofNat]
    intro y hy
    obtain ⟨j, rfl⟩ := hσ.1.2 y
    have hj : ¬ j.val < cnt T q := fun h => h1 (hy ▸ (hσ.le_iff j).2 h)
    rcases eq_or_lt_of_le (Fin.le_def.2 (by omega) : k ≤ j) with h | h
    · rw [h]
    · rcases hσ.2 k j h with h | h
      · exact absurd hy h.ne'
      · exact h.2.le
  have hreal : ∀ x, T x ≤ q → ∃ r : ℝ, T x = r := fun x h =>
    ⟨(T x).toReal, (EReal.coe_toReal (fun h' => hqtop (top_le_iff.1 (h' ▸ h))) (fun h' => not_lt_bot (h' ▸ hg x))).symm⟩
  have hcnt := cnt_le (T := T) (q := q)
  unfold near sorted
  beta_reduce
  rcases Nat.eq_zero_or_pos (cnt T q) with h0 | h0
  · -- every point is above `q`
    have hall : ∀ x, ¬ T x ≤ q := fun x hx => by
      obtain ⟨j, rfl⟩ := hσ.1.2 x
      have := (hσ.le_iff j).1 hx; omega
    rw [if_pos (lo_none g hall), (hhigh 0 (by simp [h0])).2, if_neg (fun h => hall _ h.le), if_pos (not_le.1 (hall _))]
  rcases Nat.lt_or_ge (cnt T q) 128 with h128 | h128
  · -- `q` between two neighbours
    have hl : (left T q).val = cnt T q - 1 := by show min 127 (max 1 (cnt T q)) - 1 = _; omega
    have hr : (right T q).val = cnt T q := by show min 127 (max 1 (cnt T q)) = _; omega
    obtain ⟨hlo, hlog, hlov⟩ := hlow (left T q) (by omega)
    obtain ⟨hhi, hhiv⟩ := hhigh (right T q) hr
    have hle : T (σ (left T q)) ≤ q := (hσ.le_iff _).2 (by omega)
    have hlt : q < T (σ (right T q)) := not_le.1 fun h => by have := (hσ.le_iff _).1 h; omega
    have h127 : ¬ T (σ 127) ≤ q := fun h => by have := (hσ.le_iff _).1 h; simp at this; omega
    have h00 : T (σ 0) ≤ q := (hσ.le_iff _).2 (by simpa using h0)
    have hgap' := hgap _ _ hle hlt.le (hle.trans_lt hlt) ((hceil _ hle).trans hlt.le)
    rw [if_neg hlog, hlov, hhiv, hlo, hhi, if_neg (not_lt.2 (not_le.1 h127).le), if_neg (not_lt.2 h00), if_neg (habs _ hgap'), if_neg (habs _ hgap')]
    by_cases htop : T (σ (right T q)) = ⊤
    · obtain ⟨r, hr⟩ := hreal _ hle
      rw [if_pos htop, htop, hr, EReal.top_sub_coe]
      have : Ideal.div (q - (r : EReal)) ⊤ = 0 := by
        unfold Ideal.div
        rw [if_neg EReal.top_ne_zero, EReal.inv_top, mul_zero]
      rw [this, zero_mul, add_zero]
    · rw [if_neg htop]
  · -- every point is at most `q`
    have hn : cnt T q = 128 := le_antisymm hcnt h128
    have hall : ∀ x, T x ≤ q := fun x => by
      obtain ⟨j, rfl⟩ := hσ.1.2 x
      exact (hσ.le_iff j).2 (by omega)
    obtain ⟨hlo, hlog, hlov⟩ := hlow 127 (by simp [hn])
    rw [if_neg hlog, if_pos (hi_none hall), hlov]
    by_cases hlt : T (σ 127) < q
    · rw [if_pos hlt]
    have htop : T (σ 127) = q := le_antisymm (hall _) (not_lt.1 hlt)
    have hl : left T q = 126 := Fin.ext (by show min 127 (max 1 (cnt T q)) - 1 = 126; omega)
    have hr : right T q = 127 := Fin.ext (by show min 127 (max 1 (cnt T q)) = 127; omega)
    have hfin : ∀ x, ∃ r : ℝ, V x = r := fun x => by
      rcases hb x x with h | h | h
      · exact absurd hq255 (not_le.2 (htop ▸ h))
      · rw [htop] at h; exact absurd hfloor h
      · refine ⟨(V x).toReal, (EReal.coe_toReal ?_ ?_).symm⟩
        · intro h'; rw [h'] at h; exact absurd h.2 (by simp)
        · intro h'; rw [h'] at h; exact absurd h.2 (by simp)
    have hlt' : T (σ 126) < T (σ 127) := by
      rcases hσ.2 126 127 (by decide) with h | h
      · exact h
      · rcases hb (σ 126) (σ 127) with h' | h' | ⟨h' | h' | h', _⟩
        · exact absurd hq255 (not_le.2 (htop ▸ h'))
        · rw [htop] at h'; exact absurd hfloor h'
        · exact absurd h' h.2.ne
        · exact absurd h.1 h'
        · exact absurd rfl h'
    have hgap' := hgap _ _ (hall (σ 126)) htop.ge hlt' ((hceil _ (hall _)).trans htop.ge)
    rw [hl, hr, if_neg hlt, if_neg (not_lt.2 (hall _)), if_neg (habs _ hgap'), if_neg (habs _ hgap'), htop]
    rw [htop] at hlt'
    obtain ⟨r, hr⟩ := hreal _ (hall (σ 126))
    obtain ⟨a, ha⟩ := hfin (σ 126)
    obtain ⟨b, hb'⟩ := hfin (σ 127)
    rw [hr, ha, hb', hq]
    rw [hr, hq, EReal.coe_lt_coe_iff] at hlt'
    have hs : (z : ℝ) - r ≠ 0 := sub_ne_zero.2 hlt'.ne'
    have : Ideal.div (((z : ℝ) : EReal) - (r : EReal)) (((z : ℝ) : EReal) - (r : EReal)) = 1 := by
      unfold Ideal.div
      rw [← EReal.coe_sub, if_neg (by exact_mod_cast hs), ← EReal.coe_inv, ← EReal.coe_mul, mul_inv_cancel₀ hs, EReal.coe_one]
    rw [this, one_mul, ← EReal.coe_sub, ← EReal.coe_add]
    congr 1
    ring

end Cert.Interp
end
-- ==== Proof.Curve.lean ====
/-
  What both programs compute of one curve: its points in grid coordinates, the grid cell each grid row is drawn in, and the word
  constants the two share.
-/
module
public import Idealize.ShloMosaic.Lib.Pointwise
public import proofs.«01_k».proof.Proof.Interp
@[expose] public section

noncomputable section
open Idealize.ShloMosaic

namespace Cert.Curve

/-- The points: 16 × 8 curves of 128 points with two coordinates. -/
abbrev Pts : Type := (⟨4, ![16, 8, 128, 2]⟩ : Shape).Idx → EReal
/-- The value range of each of the 16 groups. -/
abbrev Rng : Type := (⟨2, ![16, 2]⟩ : Shape).Idx → EReal

/-- The word 1/255 is rounded to. -/
abbrev step : EReal := Ideal.ofBits .f32 998277249#32
/-- The word of 1e9, far above the grid. -/
abbrev far : EReal := Ideal.ofBits .f32 1315859240#32
/-- The word of -3e38, below every abscissa. -/
abbrev neg : EReal := Ideal.ofBits .f32 4284592614#32
/-- The word 2⁻⁴⁶. -/
abbrev eps : EReal := Ideal.ofBits .f32 679477248#32
/-- The word of 255. -/
abbrev w255 : EReal := Ideal.ofBits .f32 1132396544#32

/-- The stand-in for a point without a time is positive. -/
theorem far_pos : 0 < far := by
  simp [far, Ideal.ofBits, Ideal.ieee, -EReal.coe_mul]
/-- The stand-in for no lower neighbour is negative. -/
theorem neg_neg : neg < 0 := by
  simp [neg, Ideal.ofBits, Ideal.ieee, -EReal.coe_mul]
/-- `2⁻⁴⁶` is positive. -/
theorem eps_pos : 0 < eps := by
  simp [eps, Ideal.ofBits, Ideal.ieee, -EReal.coe_mul]
/-- `2⁻⁴⁶` is finite. -/
theorem eps_lt_top : eps < ⊤ := by
  simp [eps, Ideal.ofBits, Ideal.ieee, -EReal.coe_mul]
/-- The word of 255 is 255. -/
theorem w255_eq : w255 = 255 := by
  simp [w255, Ideal.ofBits, Ideal.ieee, -EReal.coe_mul]
  norm_num
  rfl

/-- The grid abscissa of point `i` of curve `(b, k)`; far away when it is not positive. -/
def tt (X : Pts) (b : Fin 16) (k : Fin 8) (i : Fin 128) : EReal :=
  if 0 < Ideal.div (X (ix4 b k i 0)) step then Ideal.div (X (ix4 b k i 0)) step else far

/-- The grid ordinate of point `i` of curve `(b, k)`. -/
def vv (X : Pts) (M : Rng) (b : Fin 16) (k : Fin 8) (i : Fin 128) : EReal :=
  Ideal.div (X (ix4 b k i 1) - M (ix2 b 0)) (Ideal.div (M (ix2 b 1) - M (ix2 b 0)) w255)

/-- Every grid abscissa is positive. -/
theorem tt_pos (X : Pts) (b : Fin 16) (k : Fin 8) (i : Fin 128) : 0 < tt X b k i := by
  unfold tt
  split
  · assumption
  · exact far_pos

/-- The grid cell of an ordinate: rounded to the nearest integer, kept within `[0, 255]`, as a word. -/
def cell (e : EReal) : BitVec 32 := Ideal.fptosi 32 (min 255 (max 0 (Ideal.liftRound Ideal.roundHalfEven e)))

/-- It is one of the 256 grid cells. -/
theorem cell_lt (e : EReal) : (cell e).toNat < 256 := by
  unfold cell
  generalize Ideal.liftRound Ideal.roundHalfEven e = y
  obtain ⟨r, hr, h0, h1⟩ : ∃ r : ℝ, min (255 : EReal) (max 0 y) = r ∧ 0 ≤ r ∧ r ≤ 255 := by
    have hlo : (0 : EReal) ≤ min (255 : EReal) (max 0 y) := le_min (by norm_num) (le_max_left _ _)
    have hhi : min (255 : EReal) (max 0 y) ≤ 255 := min_le_left _ _
    generalize min (255 : EReal) (max 0 y) = t at hlo hhi ⊢
    induction t using EReal.rec with
    | bot => simp at hlo
    | top => exact absurd (top_le_iff.1 hhi) (EReal.coe_ne_top 255)
    | coe r => exact ⟨r, rfl, by exact_mod_cast hlo, EReal.coe_le_coe_iff.1 hhi⟩
  rw [hr]
  unfold Ideal.fptosi
  show (BitVec.ofInt 32 (max _ (min _ (Ideal.truncInt r)))).toNat < 256
  have ht : 0 ≤ Ideal.truncInt r ∧ Ideal.truncInt r ≤ 255 := by
    unfold Ideal.truncInt
    rw [if_pos h0]
    refine ⟨Int.floor_nonneg.2 h0, ?_⟩
    have : ((⌊r⌋ : ℤ) : ℝ) ≤ 255 := (Int.floor_le r).trans h1
    exact_mod_cast this
  generalize Ideal.truncInt r = z at ht
  rw [BitVec.toNat_ofInt]
  norm_num
  omega

/-- The group of curve `c`. -/
abbrev grp (c : Fin 128) : Fin 16 := ⟨c.val / 8, by omega⟩
/-- The place of curve `c` in its group. -/
abbrev mem (c : Fin 128) : Fin 8 := ⟨c.val % 8, by omega⟩

/-- A grid position as an extended real. -/
abbrev at' (q : Fin 256) : EReal := (((q.val : ℤ) : ℝ) : EReal)

/-- The grid cell of curve `c` at grid row `q`, by neighbours. -/
def enc (X : Pts) (M : Rng) (c : Fin 128) (q : Fin 256) : BitVec 32 :=
  cell (Interp.near (tt X (grp c) (mem c)) (vv X M (grp c) (mem c)) (at' q) neg)

/-- The cell is one of the 256. -/
theorem enc_lt (X : Pts) (M : Rng) (c : Fin 128) (q : Fin 256) : (enc X M c q).toNat < 256 := cell_lt _

/-- The value of an empty grid cell. -/
def base : ℝ := 10737418 / 1073741824
/-- What a cell the curve goes through has on top of it. -/
def hit : ℝ := 15099494 / 16777216

/-- The word 0.01 is rounded to is `base`. -/
theorem base_eq : Ideal.ofBits .f32 1008981770#32 = (base : EReal) := by
  unfold base
  simp [Ideal.ofBits, Ideal.ieee, -EReal.coe_mul]
  norm_num
/-- The word 0.9 is rounded to is `hit`. -/
theorem hit_eq : Ideal.ofBits .f32 1063675494#32 = (hit : EReal) := by
  unfold hit
  simp [Ideal.ofBits, Ideal.ieee, -EReal.coe_mul]
  norm_num
/-- The word 0.225 is rounded to is a quarter of `hit`. -/
theorem quarter_eq : Ideal.ofBits .f32 1046898278#32 = ((hit / 4 : ℝ) : EReal) := by
  unfold hit
  simp [Ideal.ofBits, Ideal.ieee, -EReal.coe_mul]
  norm_num
/-- The value the constant 0.685 is named by: the base and three quarters of a hit. -/
theorem near_eq : ((367756565 / 536870912 : ℝ) : EReal) = ((base + 3 / 4 * hit : ℝ) : EReal) := by
  unfold base hit
  norm_num

/-- The grid column of picture column `w`. -/
abbrev col (w : Fin 512) : Fin 256 := ⟨w.val % 256, by omega⟩
/-- The other grid row a picture row leans on: the one above in the left half, the one below in the right half. -/
abbrev other (i : Fin 256) (w : Fin 512) : Fin 256 := ⟨if w.val < 256 then i.val - 1 else min (i.val + 1) 255, by split <;> omega⟩

/-- The picture of one curve with cells `e`, grid rows `2i` and `2i + 1` of the doubled picture side by side: three quarters of grid row
`i` and one quarter of the other. -/
def img (e : Fin 256 → BitVec 32) (i : Fin 256) (w : Fin 512) : EReal :=
  ((base + (if e i = BitVec.ofNat 32 (col w).val then 3 / 4 * hit else 0)
    + (if e (other i w) = BitVec.ofNat 32 (col w).val then hit / 4 else 0) : ℝ) : EReal)

end Cert.Curve
end
-- ==== Proof.KernelRead.lean ====
/-
  The kernel's result read entry by entry: the grid cell of a curve at a grid row, and the picture drawn from the cells.
-/
module
public import proofs.«01_k».proof.Proof.KernelOut
public import proofs.«01_k».proof.Proof.Curve
public import Idealize.ShloMosaic.Lib.Pointwise
@[expose] public section
set_option maxRecDepth 16384

noncomputable section
open Idealize.ShloMosaic Idealize.ShloMosaic.TcCoe Idealize.SL.Sem

namespace Cert.KernelIdeal.Val
open Cert.KernelIdeal Cert.KernelIdeal.Gen Cert.Curve

variable (X : FVec Ideal S16x8x128x2 .f32) (M : FVec Ideal S16x2 .f32)

/-- The two named constants. -/
theorem past_eq : (Named.named κ "past" 2137108966#32 : Ideal .f32) = ⊤ := by
  simp [Named.named, κ]
/-- The constant of a hit at the nearer row, named. -/
theorem near_word : (Named.named κ "near" 1060068393#32 : Ideal .f32) = ((base + 3 / 4 * hit : ℝ) : EReal) := by
  rw [← near_eq]
  simp [Named.named, κ]

/-- A grid row number as a float is the number. -/
theorem row_eq (q : Fin 256) : (FloatOps.sitofp .f32 (BitVec.ofNat 32 q.val) : Ideal .f32) = at' q := by
  show (((BitVec.ofNat 32 q.val).toInt : ℝ) : EReal) = _
  have : (BitVec.ofNat 32 q.val).toInt = (q.val : ℤ) := by
    rw [BitVec.toInt_eq_toNat_of_lt (by rw [BitVec.toNat_ofNat]; omega), BitVec.toNat_ofNat, Nat.mod_eq_of_lt (by omega)]
  rw [this]

/-- The word of minus infinity. -/
theorem bot_eq : Ideal.ofBits .f32 4286578688#32 = ⊥ := by
  simp [Ideal.ofBits, Ideal.ieee]
/-- The word of infinity. -/
theorem top_eq : Ideal.ofBits .f32 2139095040#32 = ⊤ := by
  simp [Ideal.ofBits, Ideal.ieee]

/-- The abscissae. -/
theorem pay9 (c i : Fin 128) (q : Fin 256) : k0_pay9 (F := Ideal) (k0_pay6 (F := Ideal) (pts X c)) (ix2 i q) = tt X (grp c) (mem c) i := by
  pointwise [k0_pay9, k0_pay6, k0_pay4]
  rfl

/-- The greatest abscissa at or below the row. -/
theorem lo_apply (c : Fin 128) (q : Fin 256) : k0_pay12 k0_pay2 (k0_pay6 (F := Ideal) (pts X c)) (ix2 (0 : Fin 1) q)
    = Interp.lo (tt X (grp c) (mem c)) (at' q) neg := by
  pointwise [k0_pay12, k0_pay11, k0_pay9, k0_pay2, k0_pay6, k0_pay4]
  rw [bot_eq, row_eq]
  rfl

/-- The least abscissa above the row. -/
theorem hi_apply (c : Fin 128) (q : Fin 256) : k0_pay14 k0_pay2 (k0_pay6 (F := Ideal) (pts X c)) (ix2 (0 : Fin 1) q)
    = Interp.hi (tt X (grp c) (mem c)) (at' q) := by
  pointwise [k0_pay14, k0_pay11, k0_pay9, k0_pay2, k0_pay6, k0_pay4]
  rw [top_eq, row_eq, past_eq]
  rfl

/-- A selection by an equality of words. -/
theorem select_eq (a b : BitVec 32) (x y : EReal) : Scalar.select (IntOp.cmpi .eq a b) x y = if a = b then x else y := by
  unfold Scalar.select IntOp.cmpi
  by_cases h : a = b
  · simp [h]
  · have hb : (a == b) = false := by simpa using h
    simp [h, hb]

/-- The left neighbour's ordinate. -/
theorem lov_apply (c : Fin 128) (q : Fin 256) :
    k0_pay13 k0_pay2 (iota Kind.tc S128x256 32 [0] iota_S128x256_d0_w32) (k0_pay6 (F := Ideal) (pts X c)) (k0_pay7 (F := Ideal) (rng M c 0) (rng M c 1)) (k0_pay8 (F := Ideal) (pts X c) (rng M c 0)) (ix2 (0 : Fin 1) q)
      = Interp.pick (vv X M (grp c) (mem c)) (Interp.lastAt (tt X (grp c) (mem c)) (Interp.lo (tt X (grp c) (mem c)) (at' q) neg)) := by
  pointwise [k0_pay13, k0_pay10, k0_pay8, k0_pay7, k0_pay5, k0_pay4]
  simp only [pay9, lo_apply, select_eq]
  rfl

/-- The right neighbour's ordinate. -/
theorem hiv_apply (c : Fin 128) (q : Fin 256) :
    k0_pay15 k0_pay2 (iota Kind.tc S128x256 32 [0] iota_S128x256_d0_w32) (k0_pay6 (F := Ideal) (pts X c)) (k0_pay7 (F := Ideal) (rng M c 0) (rng M c 1)) (k0_pay8 (F := Ideal) (pts X c) (rng M c 0)) (ix2 (0 : Fin 1) q)
      = Interp.pick (vv X M (grp c) (mem c)) (Interp.firstAt (tt X (grp c) (mem c)) (Interp.hi (tt X (grp c) (mem c)) (at' q))) := by
  pointwise [k0_pay15, k0_pay10, k0_pay8, k0_pay7, k0_pay5, k0_pay4]
  simp only [pay9, hi_apply, select_eq]
  rfl

/-- THE KERNEL'S GRID CELL of curve `c` at row `q`. -/
theorem vq_apply (c : Fin 128) (q : Fin 256) : vq (pts X c) (rng M c 0) (rng M c 1) (ix2 (0 : Fin 1) q) = enc X M c q := by
  pointwise [vq, k0_pay17, k0_pay16, k0_pay3]
  rw [lo_apply, hi_apply, lov_apply, hiv_apply, past_eq, row_eq]
  have h255 : (((255#32 : BitVec 32).toInt : ℝ) : EReal) = 255 := by
    norm_num
    rfl
  have h0 : (((0#32 : BitVec 32).toInt : ℝ) : EReal) = 0 := by simp
  rw [h255, h0]
  rfl

/-- One entry of the picture, the two comparisons written the other way around. -/
theorem draw (e : Fin 256 → BitVec 32) (i j : Fin 256) (v : Nat) (w : Fin 512) (hv : v = (col w).val) (hj : j = other i w := by rfl) :
    (if BitVec.ofNat 32 v = e i then ((base + 3 / 4 * hit : ℝ) : EReal) else (base : EReal))
      + (if BitVec.ofNat 32 v = e j then ((hit / 4 : ℝ) : EReal) else 0) = img e i w := by
  subst hv hj
  unfold img
  simp only [eq_comm (a := e i), eq_comm (a := e (other i w)), ← EReal.coe_zero]
  split_ifs <;> rw [← EReal.coe_add] <;> congr 1 <;> ring

/-- The picture of one curve from its cells. -/
theorem slab_apply (r : IVec S1x256 32) (i : Fin 256) (w : Fin 512) :
    slab r (ix3 (0 : Fin 1) i w) = img (fun q => r (ix2 (0 : Fin 1) q)) i w := by
  pointwise [slab, k0_pay99, k0_pay91]
  simp only [select_eq, near_word, base_eq, quarter_eq]
  by_cases hw : w.val < 256
  · have h1 : (if h : i.val < 1 then r (ix2 (0 : Fin 1) i) else r (ix2 (0 : Fin 1) ⟨i.val - 1, by omega⟩)) = r (ix2 (0 : Fin 1) (other i w)) := by
      split <;> refine congrArg (fun q : Fin 256 => r (ix2 (0 : Fin 1) q)) (Fin.ext ?_) <;>
        (show _ = if w.val < 256 then i.val - 1 else _) <;> rw [if_pos hw]
      omega
    rw [dif_pos hw, h1]
    exact draw (fun q => r (ix2 (0 : Fin 1) q)) i _ _ w (by show w.val = w.val % 256; omega)
  · have h1 : (if h : i.val < 255 then r (ix2 (0 : Fin 1) ⟨1 + i.val, by omega⟩) else r (ix2 (0 : Fin 1) ⟨255 + (i.val - 255), by omega⟩))
        = r (ix2 (0 : Fin 1) (other i w)) := by
      split <;> refine congrArg (fun q : Fin 256 => r (ix2 (0 : Fin 1) q)) (Fin.ext ?_) <;>
        (show _ = if w.val < 256 then _ else min (i.val + 1) 255) <;> rw [if_neg hw]
      · show 1 + i.val = _
        omega
      · show 255 + (i.val - 255) = _
        omega
    rw [dif_neg hw, h1]
    exact draw (fun q => r (ix2 (0 : Fin 1) q)) i _ _ w (by show w.val - 256 = w.val % 256; omega)

/-- THE KERNEL'S RESULT: the picture of each curve's cells. -/
theorem out_apply (c : Fin 128) (i : Fin 256) (w : Fin 512) : out X M (ix3 c i w) = img (enc X M c) i w := by
  show slab (vq (pts X c) (rng M c 0) (rng M c 1)) (ix3 (0 : Fin 1) i w) = _
  rw [slab_apply, show (fun q : Fin 256 => vq (pts X c) (rng M c 0) (rng M c 1) (ix2 (0 : Fin 1) q)) = enc X M c from
    funext fun q => vq_apply X M c q]

end Cert.KernelIdeal.Val
end
-- ==== Proof.Ops.lean ====
/-
  The reference's indexed operations read at one element: a lookup of one element per (row, column) pair, a lookup of whole rows and
  of whole columns, and the stable sort of pairs by their first component along the rows of a square table.
-/
module
public import proofs.«01_k».proof.ReferenceIdeal
public import Idealize.ShloMosaic.Lib.SortFacts
public import Idealize.ShloMosaic.Lib.PlanTiles.StableSort
public import Idealize.ShloMosaic.Lib.Pointwise
public import proofs.«01_k».proof.Proof.Interp
@[expose] public section
set_option maxRecDepth 16384

noncomputable section
open Idealize.ShloMosaic

namespace Cert.ReferenceIdeal.Ops
open Cert.ReferenceIdeal

variable [Facts₀]

/-- The lookup by pairs at `(a, b)`: the element the two index words name, each read signed and kept within the table. -/
theorem gather_pair {α : Type} (x : S128x128.Idx → α) (idx : IVec S128x256x2 32) (a : Fin 128) (b : Fin 256) (r c : Fin 128)
    (hr : idx (ix3 a b 0) = BitVec.ofNat 32 r.val) (hc : idx (ix3 a b 1) = BitVec.ofNat 32 c.val) :
    Host.gather gather_S128x128_S128x256x2_S128x256_n_01_n_n_01_2_11 x idx (ix2 a b) = x (ix2 r c) := by
  unfold Host.gather
  congr 1
  funext k
  refine Fin.ext ?_
  let d := gather_S128x128_S128x256x2_S128x256_n_01_n_n_01_2_11
  have hm : ∀ q : Fin 2, q ∈ d.startIndexMap := fun q => by fin_cases q <;> simp [d, gather_S128x128_S128x256x2_S128x256_n_01_n_n_01_2_11]
  have hmc : ∀ q : Fin 2, q ∈ d.collapsedSliceDims := hm
  have hsi : ∀ q : Fin 2, d.siIdx (ix2 a b) ⟨d.startIndexMap.idxOf q, List.idxOf_lt_length_iff.2 (hm q)⟩ = ix3 a b q := fun q => by
    funext b'
    refine Fin.ext ?_
    match b' with
    | ⟨0, _⟩ => rfl
    | ⟨1, _⟩ => rfl
    | ⟨2, _⟩ => fin_cases q <;> rfl
  show d.start (ix2 a b) idx k + d.batchCoord (ix2 a b) k + d.offCoord (ix2 a b) k = _
  rw [GatherDims.batchCoord_eq_zero _ _ _ List.not_mem_nil,
    GatherDims.offCoord_eq_zero _ _ _ (fun h => ((GatherDims.mem_sKept _ _).mp h).1 (hmc k))]
  unfold GatherDims.start
  rw [dif_pos (hm k), hsi k]
  have key : ∀ r : Fin 128, min (BitVec.ofNat 32 r.val).toInt.toNat 127 = r.val := fun r => by
    rw [Interp.toInt_ofNat128]; have := r.isLt; simp; omega
  match k with
  | ⟨0, _⟩ =>
    refine Eq.trans ?_ (key r)
    rw [← hr]; rfl
  | ⟨1, _⟩ =>
    refine Eq.trans ?_ (key c)
    rw [← hc]; rfl

/-- The lookup of whole rows: result row `y` is the table's row the index word names, read signed and kept within the table. -/
theorem gather_row {α : Type} (x : S16x8x256x256.Idx → α) (idx : IVec S512x1 32) (b : Fin 16) (k : Fin 8) (y : Fin 512) (w : Fin 256) (r : Fin 256)
    (hr : idx (ix2 y 0) = BitVec.ofNat 32 r.val) :
    Host.gather gather_S16x8x256x256_S512x1_S16x8x512x256_013_2_n_n_2_1_1681256 x idx (ix4 b k y w) = x (ix4 b k r w) := by
  unfold Host.gather
  congr 1
  funext l
  refine Fin.ext ?_
  let d := gather_S16x8x256x256_S512x1_S16x8x512x256_013_2_n_n_2_1_1681256
  have hsi : d.siIdx (ix4 b k y w) ⟨d.startIndexMap.idxOf 2, List.idxOf_lt_length_iff.2 (List.mem_singleton.mpr rfl)⟩ = ix2 y 0 := by
    funext b'
    refine Fin.ext ?_
    match b' with
    | ⟨0, _⟩ => rfl
    | ⟨1, _⟩ => rfl
  have key : min (BitVec.ofNat 32 r.val).toInt.toNat 255 = r.val := by
    have h : (BitVec.ofNat 32 r.val).toInt = (r.val : Int) := by
      rw [BitVec.toInt_eq_toNat_of_lt] <;> rw [BitVec.toNat_ofNat, Nat.mod_eq_of_lt (by omega)]
      omega
    rw [h]; have := r.isLt; simp; omega
  show d.start (ix4 b k y w) idx l + d.batchCoord (ix4 b k y w) l + d.offCoord (ix4 b k y w) l = _
  rw [GatherDims.batchCoord_eq_zero _ _ _ List.not_mem_nil]
  match l with
  | ⟨0, _⟩ => unfold GatherDims.start; rw [dif_neg (by simp [d, gather_S16x8x256x256_S512x1_S16x8x512x256_013_2_n_n_2_1_1681256])]; simp only [Nat.zero_add]; rfl
  | ⟨1, _⟩ => unfold GatherDims.start; rw [dif_neg (by simp [d, gather_S16x8x256x256_S512x1_S16x8x512x256_013_2_n_n_2_1_1681256])]; simp only [Nat.zero_add]; rfl
  | ⟨3, _⟩ => unfold GatherDims.start; rw [dif_neg (by simp [d, gather_S16x8x256x256_S512x1_S16x8x512x256_013_2_n_n_2_1_1681256])]; simp only [Nat.zero_add]; rfl
  | ⟨2, _⟩ =>
    refine Eq.trans ?_ key
    rw [← hr, ← hsi]
    rfl

/-- The lookup of whole columns: result column `w` is the table's column the index word names, read signed and kept within the table. -/
theorem gather_col {α : Type} (x : S16x8x512x256.Idx → α) (idx : IVec S256x1 32) (b : Fin 16) (k : Fin 8) (y : Fin 512) (w : Fin 256) (r : Fin 256)
    (hr : idx (ix2 w 0) = BitVec.ofNat 32 r.val) :
    Host.gather gather_S16x8x512x256_S256x1_S16x8x512x256_012_3_n_n_3_1_1685121 x idx (ix4 b k y w) = x (ix4 b k y r) := by
  unfold Host.gather
  congr 1
  funext l
  refine Fin.ext ?_
  let d := gather_S16x8x512x256_S256x1_S16x8x512x256_012_3_n_n_3_1_1685121
  have hsi : d.siIdx (ix4 b k y w) ⟨d.startIndexMap.idxOf 3, List.idxOf_lt_length_iff.2 (List.mem_singleton.mpr rfl)⟩ = ix2 w 0 := by
    funext b'
    refine Fin.ext ?_
    match b' with
    | ⟨0, _⟩ => rfl
    | ⟨1, _⟩ => rfl
  have key : min (BitVec.ofNat 32 r.val).toInt.toNat 255 = r.val := by
    have h : (BitVec.ofNat 32 r.val).toInt = (r.val : Int) := by
      rw [BitVec.toInt_eq_toNat_of_lt] <;> rw [BitVec.toNat_ofNat, Nat.mod_eq_of_lt (by omega)]
      omega
    rw [h]; have := r.isLt; simp; omega
  show d.start (ix4 b k y w) idx l + d.batchCoord (ix4 b k y w) l + d.offCoord (ix4 b k y w) l = _
  rw [GatherDims.batchCoord_eq_zero _ _ _ List.not_mem_nil]
  match l with
  | ⟨0, _⟩ => unfold GatherDims.start; rw [dif_neg (by simp [d, gather_S16x8x512x256_S256x1_S16x8x512x256_012_3_n_n_3_1_1685121])]; simp only [Nat.zero_add]; rfl
  | ⟨1, _⟩ => unfold GatherDims.start; rw [dif_neg (by simp [d, gather_S16x8x512x256_S256x1_S16x8x512x256_012_3_n_n_3_1_1685121])]; simp only [Nat.zero_add]; rfl
  | ⟨2, _⟩ => unfold GatherDims.start; rw [dif_neg (by simp [d, gather_S16x8x512x256_S256x1_S16x8x512x256_012_3_n_n_3_1_1685121])]; simp only [Nat.zero_add]; rfl
  | ⟨3, _⟩ =>
    refine Eq.trans ?_ key
    rw [← hr, ← hsi]
    rfl

/-- The sort's comparison is the order of the first components. -/
theorem comparator_eq (l r : Ideal .f32 × Ideal .f32) :
    comparator_f32_f32_d1 (F := Ideal) l r = BitVec.ofBool (decide (l.1 < r.1)) := by
  unfold comparator_f32_f32_d1
  pointwise
  have hc : ∀ x : Ideal .f32, (if x ≠ x then Ideal.ofBits FTy.f32 2143289344#32 else if x = 0 then 0 else x) = x := fun x => by
    rw [if_neg (not_not.2 rfl)]
    split
    · rename_i h; exact h.symm
    · rfl
  rw [hc, hc]
  rfl

/-- The order a stable sort of a row by its first components lists the positions in. -/
def perm (T : Fin 128 → EReal) : Fin 128 → Fin 128 := sortedFrom fun a b => decide (T a < T b)

/-- The sort's order lists the keys upwards, equal keys in the order of their positions. -/
theorem perm_lists (T : Fin 128 → EReal) : Interp.Lists T (perm T) := by
  let G : Fin 128 → Nat := fun x => (Finset.univ.filter fun y => T x < T y).card
  have hG : ∀ a b, T a < T b ↔ G b < G a := by
    intro a b
    constructor
    · intro h
      apply Finset.card_lt_card
      refine (Finset.ssubset_iff_of_subset ?_).2 ⟨b, by simpa using h, by simp⟩
      intro y hy
      simp only [Finset.mem_filter, Finset.mem_univ, true_and] at hy ⊢
      exact h.trans hy
    · intro h
      by_contra hn
      refine absurd (Finset.card_le_card (s := Finset.univ.filter fun y => T a < T y) (t := Finset.univ.filter fun y => T b < T y) ?_) (not_le.2 h)
      intro y hy
      simp only [Finset.mem_filter, Finset.mem_univ, true_and] at hy ⊢
      exact (not_lt.1 hn).trans_lt hy
  have hB : (fun a b : Fin 128 => decide (T a < T b)) = fun a b => decide (G b < G a) := by
    funext a b
    exact decide_eq_decide.2 (hG a b)
  refine ⟨⟨sortedFrom_injective _, sortedFrom_surjective _⟩, fun a b hab => ?_⟩
  have hp : ∀ a b : Fin (sortPositions 128 fun x y => decide (G y < G x)).length, a < b →
      PlanTiles.Lex G (· < ·) ((sortPositions 128 fun x y => decide (G y < G x)).get a) ((sortPositions 128 fun x y => decide (G y < G x)).get b) :=
    List.pairwise_iff_get.mp (PlanTiles.pairwise_stableSort_lex G (· < ·) (List.finRange 128) (List.pairwise_lt_finRange 128))
  have h : PlanTiles.Lex G (· < ·) (perm T a) (perm T b) := by
    unfold perm
    rw [hB]
    unfold sortedFrom
    exact hp _ _ (by simp only [Fin.lt_def, Fin.val_cast]; exact hab)
  rcases h with h | ⟨h, h'⟩
  · exact Or.inl ((hG _ _).2 h)
  · refine Or.inr ⟨le_antisymm ?_ ?_, h'⟩
    · exact not_lt.1 fun hl => by have := (hG _ _).1 hl; omega
    · exact not_lt.1 fun hl => by have := (hG _ _).1 hl; omega

/-- The sort of pairs, read at `(c, i)`: both components at the position that the row's order lists `i`-th. -/
theorem sort_apply (x y : FVec Ideal S128x128 .f32) (c i : Fin 128) :
    (Host.sort2 S128x128 1 (comparator_f32_f32_d1 (F := Ideal)) x y).1 (ix2 c i) = x (ix2 c (perm (fun k => x (ix2 c k)) i))
    ∧ (Host.sort2 S128x128 1 (comparator_f32_f32_d1 (F := Ideal)) x y).2 (ix2 c i) = y (ix2 c (perm (fun k => x (ix2 c k)) i)) := by
  have hal : ∀ k : Fin 128, (ix2 c i : S128x128.Idx).along (1 : Fin 2) k = ix2 c k := fun k => by
    funext a
    match a with
    | ⟨0, _⟩ => rfl
    | ⟨1, _⟩ => rfl
  have hs : (fun k k' : Fin 128 => (comparator_f32_f32_d1 (F := Ideal) (x (ix2 c k), y (ix2 c k)) (x (ix2 c k'), y (ix2 c k')) == 1#1))
      = fun k k' => decide (x (ix2 c k) < x (ix2 c k')) := by
    funext k k'
    rw [comparator_eq]
    by_cases h : x (ix2 c k) < x (ix2 c k') <;> simp [h]
  have hπ : sortedFrom (fun k k' : Fin 128 => comparator_f32_f32_d1 (F := Ideal) (x ((ix2 c i : S128x128.Idx).along (1 : Fin 2) k), y ((ix2 c i : S128x128.Idx).along (1 : Fin 2) k))
      (x ((ix2 c i : S128x128.Idx).along (1 : Fin 2) k'), y ((ix2 c i : S128x128.Idx).along (1 : Fin 2) k')) == 1#1) i = perm (fun k => x (ix2 c k)) i := by
    unfold perm
    rw [← hs]
    simp only [hal]
  constructor
  · rw [← hal (perm _ i), ← hπ]; rfl
  · rw [← hal (perm _ i), ← hπ]; rfl

end Cert.ReferenceIdeal.Ops
end
-- ==== Proof.RefCurve.lean ====
/-
  The reference's curve read at one grid row: the sorted points, the two neighbours' positions and the grid cell.
-/
module
public import proofs.«01_k».proof.Proof.Gen.ReferenceIdeal.Read
public import Idealize.ShloMosaic.Lib.Pointwise
public import proofs.«01_k».proof.Proof.Ops
public import proofs.«01_k».proof.Proof.Curve
@[expose] public section
set_option maxRecDepth 16384

noncomputable section
open Idealize.ShloMosaic Idealize.ShloMosaic.TcCoe Idealize.SL.Sem

namespace Cert.ReferenceIdeal.Val
open Cert.ReferenceIdeal Cert.ReferenceIdeal.Gen Cert.ReferenceIdeal.Read Cert.Curve

variable (X : FVec Ideal S16x8x128x2 .f32) (M : FVec Ideal S16x2 .f32)

/-- The abscissae. -/
theorem v25 (c i : Fin 128) : val_main_v25 (F := Ideal) X (ix2 c i) = tt X (grp c) (mem c) i := by
  pointwise [val_main_v25, val_main_v24, val_main_v23, val_main_cst_2, val_main_v21, val_main_v5, val_main_v3, val_main_v1, val_main_v0, val_main_v2, val_main_cst, val_main_v4, val_main_cst_0, val_main_call0_v1, val_main_call0_v0, val_main_cst_3]
  rfl

/-- The ordinates. -/
theorem v22 (c i : Fin 128) : val_main_v22 (F := Ideal) X M (ix2 c i) = vv X M (grp c) (mem c) i := by
  pointwise [val_main_v22, val_main_v20, val_main_v19, val_main_v18, val_main_v17, val_main_v16, val_main_v15, val_main_v14, val_main_v13, val_main_v12, val_main_v11, val_main_v10, val_main_v9, val_main_v8, val_main_v7, val_main_v6, val_main_cst_1]
  rfl

/-- The order of the curve's points. -/
def ord (c : Fin 128) : Fin 128 → Fin 128 := Ops.perm (tt X (grp c) (mem c))

/-- The order lists the abscissae upwards. -/
theorem ord_lists (c : Fin 128) : Interp.Lists (tt X (grp c) (mem c)) (ord X c) := Ops.perm_lists _

/-- The sorted abscissae. -/
theorem v26_0 (c i : Fin 128) : val_main_v26_0 (F := Ideal) X M (ix2 c i) = tt X (grp c) (mem c) (ord X c i) := by
  unfold val_main_v26_0
  rw [(Ops.sort_apply _ _ c i).1, v25]
  unfold ord
  simp only [v25]

/-- The ordinates in the order of the abscissae. -/
theorem v26_1 (c i : Fin 128) : val_main_v26_1 (F := Ideal) X M (ix2 c i) = vv X M (grp c) (mem c) (ord X c i) := by
  unfold val_main_v26_1
  rw [(Ops.sort_apply _ _ c i).2, v22]
  unfold ord
  simp only [v25]

/-- The sum of as many ones as there are positions with `p`, as a word. -/
theorem fold_addi_eq (p : Fin 128 → Prop) [DecidablePred p] (s : Finset (Fin 128)) :
    Finset.fold IntOp.addi 0#32 (fun x => BitVec.setWidth 32 (BitVec.ofBool (decide (p x)))) s
      = BitVec.ofNat 32 (s.filter p).card := by
  induction s using Finset.induction with
  | empty => rfl
  | insert a s ha ih =>
    rw [Finset.fold_insert ha, ih, Finset.filter_insert]
    by_cases h : p a
    · rw [if_pos h, Finset.card_insert_of_notMem (fun h' => ha (Finset.mem_filter.1 h').1), decide_eq_true h, Nat.add_comm,
        BitVec.ofNat_add]
      rfl
    · rw [if_neg h, decide_eq_false h]
      exact BitVec.zero_add _

/-- A word read as an integer. -/
theorem toInt_small (n : Nat) (h : n < 1000) : (BitVec.ofNat 32 n).toInt = (n : Int) := by
  rw [BitVec.toInt_eq_toNat_of_lt] <;> rw [BitVec.toNat_ofNat, Nat.mod_eq_of_lt (by omega)]
  omega

/-- A grid row's position, as an extended real. -/
theorem row_eq (q : Fin 256) : (FloatOps.sitofp .f32 (BitVec.ofNat 32 q.val) : Ideal .f32) = at' q := by
  show (((BitVec.ofNat 32 q.val).toInt : ℝ) : EReal) = _
  rw [toInt_small _ (by omega)]

/-- The count of points at most `q`, kept within `[1, 127]`. -/
theorem v37 (c : Fin 128) (q : Fin 256) :
    val_main_v37 (F := Ideal) X M (ix2 c q) = BitVec.ofNat 32 (Interp.right (tt X (grp c) (mem c)) (at' q)).val := by
  pointwise [val_main_v37, val_main_call1_v4, val_main_call1_v3, val_main_call1_v2, val_main_call1_v1, val_main_call1_v0, val_main_c_4, val_main_c_5, val_main_v36, val_main_v35, val_main_v34, val_main_v33, val_main_v32, val_main_v31, val_main_v30, val_main_v27, val_main_c]
  simp only [v26_0, row_eq]
  rw [fold_addi_eq (fun x => tt X (grp c) (mem c) (ord X c x) ≤ at' q), ← Interp.Lists.cnt_eq (ord_lists X c)]
  have hn := Interp.cnt_le (T := tt X (grp c) (mem c)) (q := at' q)
  show _ = BitVec.ofNat 32 (min 127 (max 1 (Interp.cnt (tt X (grp c) (mem c)) (at' q))))
  generalize Interp.cnt (tt X (grp c) (mem c)) (at' q) = n at hn ⊢
  apply BitVec.eq_of_toInt_eq
  rw [Interp.toInt_minsi, Interp.toInt_maxsi, toInt_small n (by omega), toInt_small (min 127 (max 1 n)) (by omega)]
  show min (127 : Int) (max 1 n) = ((min 127 (max 1 n) : Nat) : Int)
  omega

/-- The left neighbour's position. -/
theorem v39 (c : Fin 128) (q : Fin 256) :
    val_main_v39 (F := Ideal) X M (ix2 c q) = BitVec.ofNat 32 (Interp.left (tt X (grp c) (mem c)) (at' q)).val := by
  pointwise [val_main_v39, val_main_v38, val_main_c_6]
  rw [v37]
  show BitVec.ofNat 32 (min 127 (max 1 (Interp.cnt (tt X (grp c) (mem c)) (at' q)))) - 1#32
    = BitVec.ofNat 32 (min 127 (max 1 (Interp.cnt (tt X (grp c) (mem c)) (at' q))) - 1)
  generalize Interp.cnt (tt X (grp c) (mem c)) (at' q) = n
  apply BitVec.eq_of_toNat_eq
  simp
  omega

/-- The left neighbour's position, as a word. -/
theorem v51 (c : Fin 128) (q : Fin 256) :
    val_main_v51 (F := Ideal) X M (ix2 c q) = BitVec.ofNat 32 (Interp.left (tt X (grp c) (mem c)) (at' q)).val := v39 X M c q

/-- The left neighbour's abscissa. -/
theorem v44 (c : Fin 128) (q : Fin 256) :
    val_main_v44 (F := Ideal) X M (ix2 c q) = tt X (grp c) (mem c) (ord X c (Interp.left (tt X (grp c) (mem c)) (at' q))) := by
  unfold val_main_v44
  rw [Ops.gather_pair _ _ c q c (Interp.left (tt X (grp c) (mem c)) (at' q)), v26_0]
  · pointwise [val_main_v43, val_main_v42, val_main_v41, val_main_v40, val_main_v29, val_main_v28]
  · pointwise [val_main_v43, val_main_v42, val_main_v41, val_main_v40, val_main_v29, val_main_v28]
    exact v39 X M c q

/-- The right neighbour's abscissa. -/
theorem v49 (c : Fin 128) (q : Fin 256) :
    val_main_v49 (F := Ideal) X M (ix2 c q) = tt X (grp c) (mem c) (ord X c (Interp.right (tt X (grp c) (mem c)) (at' q))) := by
  unfold val_main_v49
  rw [Ops.gather_pair _ _ c q c (Interp.right (tt X (grp c) (mem c)) (at' q)), v26_0]
  · pointwise [val_main_v48, val_main_v47, val_main_v46, val_main_v45, val_main_v29, val_main_v28]
  · pointwise [val_main_v48, val_main_v47, val_main_v46, val_main_v45, val_main_v29, val_main_v28]
    exact v37 X M c q

/-- The left neighbour's ordinate. -/
theorem v56 (c : Fin 128) (q : Fin 256) :
    val_main_v56 (F := Ideal) X M (ix2 c q) = vv X M (grp c) (mem c) (ord X c (Interp.left (tt X (grp c) (mem c)) (at' q))) := by
  unfold val_main_v56
  rw [Ops.gather_pair _ _ c q c (Interp.left (tt X (grp c) (mem c)) (at' q)), v26_1]
  · pointwise [val_main_v55, val_main_v54, val_main_v53, val_main_v52, val_main_v29, val_main_v28]
  · pointwise [val_main_v55, val_main_v54, val_main_v53, val_main_v52, val_main_v29, val_main_v28]
    exact v51 X M c q

/-- The right neighbour's ordinate. -/
theorem v61 (c : Fin 128) (q : Fin 256) :
    val_main_v61 (F := Ideal) X M (ix2 c q) = vv X M (grp c) (mem c) (ord X c (Interp.right (tt X (grp c) (mem c)) (at' q))) := by
  unfold val_main_v61
  rw [Ops.gather_pair _ _ c q c (Interp.right (tt X (grp c) (mem c)) (at' q)), v26_1]
  · pointwise [val_main_v60, val_main_v59, val_main_v58, val_main_v57, val_main_v29, val_main_v28]
  · pointwise [val_main_v60, val_main_v59, val_main_v58, val_main_v57, val_main_v29, val_main_v28]
    exact v37 X M c q

/-- THE GRID CELL of curve `c` at row `q`: that of the curve through its sorted points. -/
theorem v91 (c : Fin 128) (q : Fin 256) :
    val_main_v91 (F := Ideal) X M (ix2 c q)
      = cell (Interp.sorted (fun k => tt X (grp c) (mem c) (ord X c k)) (fun k => vv X M (grp c) (mem c) (ord X c k))
          (Interp.left (tt X (grp c) (mem c)) (at' q)) (Interp.right (tt X (grp c) (mem c)) (at' q)) (at' q) eps) := by
  simp only [val_main_v91, val_main_v90, val_main_call7_v4, val_main_call7_v3, val_main_call7_v2, val_main_call7_v1, val_main_call7_v0, val_main_c_10, val_main_c_11, val_main_v89, val_main_v88, val_main_v86]
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v27, val_main_v87, val_main_call4_v0, val_main_call5_v0, val_main_cst_8, val_main_cst_9, val_main_call2_v1, val_main_call2_v0]
  simp only [v26_0, v26_1, v44, v49, v56, v61, row_eq]
  have h1 : (id (constant (F := Ideal) S_ FTy.f32 1065353216#32) ix0 : EReal) = 1 := by
    show Ideal.ofBits FTy.f32 1065353216#32 = 1
    simp [Ideal.ofBits, Ideal.ieee, -EReal.coe_mul]
    norm_num
  have h255 : (FloatOps.sitofp FTy.f32 255#32 : Ideal .f32) = (255 : EReal) := by
    show (((255#32).toInt : ℝ) : EReal) = 255
    norm_num
    rfl
  have h0 : (FloatOps.sitofp FTy.f32 0#32 : Ideal .f32) = (0 : EReal) := by
    show (((0#32).toInt : ℝ) : EReal) = 0
    simp
  rw [h1, h255, h0]
  rfl

end Cert.ReferenceIdeal.Val
end
-- ==== Proof.RefImage.lean ====
/-
  The reference's picture: the cells scattered on the grid, and the picture doubled in height.
-/
module
public import Idealize.ShloMosaic.Lib.Routing.OpsPair
public import proofs.«01_k».proof.Proof.RefCurve
@[expose] public section
set_option maxRecDepth 16384

noncomputable section
open Idealize.ShloMosaic Idealize.ShloMosaic.TcCoe Idealize.SL.Sem

namespace Cert.ReferenceIdeal.Val
open Cert.ReferenceIdeal Cert.ReferenceIdeal.Gen Cert.ReferenceIdeal.Read Cert.Curve

variable (X : FVec Ideal S16x8x128x2 .f32) (M : FVec Ideal S16x2 .f32)

/-- The cells of curve `c`, row by row. -/
abbrev cells (c : Fin 128) (q : Fin 256) : BitVec 32 := val_main_v91 (F := Ideal) X M (ix2 c q)

/-- Each is one of the 256 cells. -/
theorem cells_lt (c : Fin 128) (q : Fin 256) : (cells X M c q).toNat < 256 := by
  rw [cells, v91]
  exact cell_lt _

/-- The flat position of the cell of curve `c` at row `q`. -/
theorem v99 (c : Fin 128) (q : Fin 256) :
    (val_main_v99 (F := Ideal) X M (ix2 c q)).toInt = ((q.val * 256 + (cells X M c q).toNat : ℕ) : ℤ) := by
  pointwise [val_main_v99, val_main_v98, val_main_v97, val_main_v95, val_main_v94, val_main_v96, val_main_c_12]
  have hE := cells_lt X M c q
  unfold cells at hE ⊢
  generalize (val_main_v91 (F := Ideal) X M (ix2 c q) : BitVec 32) = e at hE ⊢
  show (BitVec.ofNat 32 q.val * 256#32 + e).toInt = _
  have hq : q.val < 256 := q.isLt
  have : (BitVec.ofNat 32 q.val * 256#32 + e).toNat = q.val * 256 + e.toNat := by
    simp only [BitVec.toNat_add, BitVec.toNat_mul, BitVec.toNat_ofNat]
    omega
  rw [BitVec.toInt_eq_toNat_of_lt (by rw [this]; omega), this]

/-- The two index components of the cell of curve `c` at row `q`. -/
theorem v104_0 (c : Fin 128) (q : Fin 256) : val_main_v104 (F := Ideal) X M (ix3 c q 0) = BitVec.ofNat 32 c.val := by
  pointwise [val_main_v104, val_main_v102, val_main_v101, val_main_v93, val_main_v92, val_main_v103]
/-- The second component is the flat position. -/
theorem v104_1 (c : Fin 128) (q : Fin 256) : val_main_v104 (F := Ideal) X M (ix3 c q 1) = val_main_v99 (F := Ideal) X M (ix2 c q) := by
  pointwise [val_main_v104, val_main_v102, val_main_v101, val_main_v93, val_main_v92, val_main_v103]

/-- Which position an update lands on: the cell of its own curve and row, and no other. -/
theorem lands (c : Fin 128) (p : Fin 65536) (r w : Fin 256) (hp : p.val = r.val * 256 + w.val) (a : Fin 128) (b : Fin 256) :
    scatter_S128x65536_S128x256x2_S128x256_n_01_01_2.resultIdx? (ix2 a b) (val_main_v104 (F := Ideal) X M) = some (ix2 c p)
      ↔ a = c ∧ b = r ∧ cells X M c r = BitVec.ofNat 32 w.val := by
  refine (Routing.scatter_lands2 _ rfl rfl rfl (val_main_v104 (F := Ideal) X M) a b c p).trans ?_
  show (val_main_v104 (F := Ideal) X M (ix3 a b 0)).toInt = _ ∧ (val_main_v104 (F := Ideal) X M (ix3 a b 1)).toInt = _ ↔ _
  rw [v104_0, v104_1, v99, toInt_small _ (by omega), hp]
  have hE := cells_lt X M a b
  constructor
  · rintro ⟨h0, h1⟩
    obtain rfl : a = c := Fin.ext (by exact_mod_cast h0)
    have h1' : b.val * 256 + (cells X M a b).toNat = r.val * 256 + w.val := by exact_mod_cast h1
    obtain rfl : b = r := Fin.ext (by omega)
    refine ⟨rfl, rfl, BitVec.eq_of_toNat_eq ?_⟩
    rw [BitVec.toNat_ofNat]
    omega
  · rintro ⟨rfl, rfl, h⟩
    refine ⟨rfl, ?_⟩
    rw [h, BitVec.toNat_ofNat, Nat.mod_eq_of_lt (by omega)]

/-- The grid of curve `c`: the base value, and the hit on top of it where the curve goes. -/
theorem v106 (c : Fin 128) (p : Fin 65536) (r w : Fin 256) (hp : p.val = r.val * 256 + w.val) :
    val_main_v106 (F := Ideal) X M (ix2 c p) = ((base + (if cells X M c r = BitVec.ofNat 32 w.val then hit else 0) : ℝ) : EReal) := by
  show val_main_v100 (F := Ideal) (ix2 c p) + ∑ j ∈ Finset.univ.filter (fun j =>
    scatter_S128x65536_S128x256x2_S128x256_n_01_01_2.resultIdx? j (val_main_v104 (F := Ideal) X M) = some (ix2 c p)), val_main_v105 (F := Ideal) j = _
  rw [EReal.coe_add]
  congr 1
  · exact base_eq
  by_cases h : cells X M c r = BitVec.ofNat 32 w.val
  · rw [if_pos h, Finset.sum_eq_single (ix2 c r)]
    · exact hit_eq
    · intro j hj hne
      exfalso
      apply hne
      obtain ⟨a, b, rfl⟩ : ∃ (a : Fin 128) (b : Fin 256), j = ix2 a b := ⟨j 0, j 1, funext fun d => by fin_cases d <;> rfl⟩
      obtain ⟨rfl, rfl, _⟩ := (lands X M c p r w hp a b).1 (Finset.mem_filter.1 hj).2
      rfl
    · intro hn
      exact (hn (Finset.mem_filter.2 ⟨Finset.mem_univ _, (lands X M c p r w hp c r).2 ⟨rfl, rfl, h⟩⟩)).elim
  · rw [if_neg h, EReal.coe_zero]
    refine Finset.sum_eq_zero fun j hj => ?_
    obtain ⟨a, b, rfl⟩ : ∃ (a : Fin 128) (b : Fin 256), j = ix2 a b := ⟨j 0, j 1, funext fun d => by fin_cases d <;> rfl⟩
    exact absurd ((lands X M c p r w hp a b).1 (Finset.mem_filter.1 hj).2).2.2 h

/-- The grid as a square picture: the base value, and the hit on top of it where the curve goes. -/
theorem v107 (c : Fin 128) (r w : Fin 256) : val_main_v107 (F := Ideal) X M (ix4 (grp c) (mem c) r w)
    = ((base + (if cells X M c r = BitVec.ofNat 32 w.val then hit else 0) : ℝ) : EReal) := by
  rw [val_main_v107_apply, ← v106 X M c ⟨r.val * 256 + w.val, by omega⟩ r w rfl]
  congr 1
  funext d
  fin_cases d
  · refine Fin.ext ?_
    show (((c.val / 8 * 8 + c.val % 8) * 256 + r.val) * 256 + w.val) / 65536 = c.val
    omega
  · refine Fin.ext ?_
    show (((c.val / 8 * 8 + c.val % 8) * 256 + r.val) * 256 + w.val) % 65536 = r.val * 256 + w.val
    omega

/-! The sample positions of the doubled picture. -/

/-- The grid row above picture row `y`. -/
abbrev up (y : Fin 512) : Fin 256 := ⟨(y.val - 1) / 2, by omega⟩
/-- The grid row below picture row `y`. -/
abbrev down (y : Fin 512) : Fin 256 := ⟨min ((y.val - 1) / 2 + 1) 255, by omega⟩
/-- How far below its upper grid row picture row `y` is. -/
def frac (y : Fin 512) : ℝ := if y.val = 0 then 0 else if y.val % 2 = 0 then 3 / 4 else 1 / 4

/-- It is a fraction. -/
theorem frac_bd (y : Fin 512) : 0 ≤ frac y ∧ frac y < 1 := by
  unfold frac
  split_ifs <;> norm_num

/-- The word of one half. -/
theorem half_eq : Ideal.ofBits .f32 1056964608#32 = ((1 / 2 : ℝ) : EReal) := by
  simp [Ideal.ofBits, Ideal.ieee, -EReal.coe_mul]
  norm_num

/-- A small number as a float is the number. -/
theorem num_eq (n : Nat) (h : n < 1000) : (FloatOps.sitofp .f32 (BitVec.ofNat 32 n) : Ideal .f32) = ((n : ℝ) : EReal) := by
  show (((BitVec.ofNat 32 n).toInt : ℝ) : EReal) = _
  rw [toInt_small _ h]
  norm_num

/-- The maximum with zero, over the reals. -/
theorem max_zero (r : ℝ) : max (r : EReal) 0 = ((max r 0 : ℝ) : EReal) := by
  rcases le_total r 0 with h | h
  · rw [max_eq_right h, max_eq_right (by exact_mod_cast h), EReal.coe_zero]
  · rw [max_eq_left h, max_eq_left (by exact_mod_cast h)]

/-- The floor of a number and a fraction is the number, as a word. -/
theorem floor_eq (n : Nat) (h : n < 1000) (f : ℝ) (h0 : 0 ≤ f) (h1 : f < 1) :
    (FloatOps.fptosi 32 (show Ideal .f32 from Ideal.liftRound Int.floor ((n + f : ℝ) : EReal))) = BitVec.ofNat 32 n := by
  have hf : ⌊(n + f : ℝ)⌋ = (n : ℤ) := by
    rw [Int.floor_eq_iff]
    push_cast
    constructor <;> linarith
  rw [Ideal.liftRound_coe, hf]
  show Ideal.fptosi 32 (((n : ℤ) : ℝ) : EReal) = _
  unfold Ideal.fptosi
  show BitVec.ofInt 32 (max _ (min _ (Ideal.truncInt ((n : ℤ) : ℝ)))) = _
  have ht : Ideal.truncInt ((n : ℤ) : ℝ) = (n : ℤ) := by
    unfold Ideal.truncInt
    rw [if_pos (by positivity), Int.floor_intCast]
  rw [ht]
  apply BitVec.eq_of_toNat_eq
  rw [BitVec.toNat_ofInt, BitVec.toNat_ofNat]
  norm_num
  omega

/-- The vertical sample positions. -/
theorem v116 (y : Fin 512) : val_main_v116 (F := Ideal) (ix1 y) = (((up y).val + frac y : ℝ) : EReal) := by
  pointwise [val_main_v116, val_main_v114, val_main_v112, val_main_v110, val_main_v108, val_main_v109, val_main_cst_15, val_main_v111, val_main_cst_16, val_main_v113, val_main_cst_17, val_main_v115, val_main_cst_18]
  rw [num_eq _ (by omega), half_eq, ← EReal.coe_add, ← EReal.coe_mul, ← EReal.coe_sub, max_zero]
  congr 1
  have hy : y.val = 0 ∨ (y.val ≠ 0 ∧ y.val % 2 = 0 ∧ y.val = 2 * ((y.val - 1) / 2) + 2) ∨ (y.val ≠ 0 ∧ y.val % 2 ≠ 0 ∧ y.val = 2 * ((y.val - 1) / 2) + 1) := by omega
  unfold frac
  show _ = ((((y.val - 1) / 2 : ℕ)) : ℝ) + _
  have hz : y.val = 0 → (y.val - 1) / 2 = 0 := by omega
  generalize (y.val - 1) / 2 = n at hy hz
  rcases hy with h | ⟨h, h', e⟩ | ⟨h, h', e⟩
  · rw [if_pos h, h]
    have hn : n = 0 := hz h
    rw [hn]
    norm_num
  · rw [if_neg h, if_pos h', e]
    have : (0 : ℝ) ≤ n := by positivity
    rw [max_eq_left (by push_cast; linarith)]
    push_cast
    ring
  · rw [if_neg h, if_neg h', e]
    have : (0 : ℝ) ≤ n := by positivity
    rw [max_eq_left (by push_cast; linarith)]
    push_cast
    ring

/-- The grid row above a sample. -/
theorem v127 (y : Fin 512) : val_main_v127 (F := Ideal) (ix1 y) = BitVec.ofNat 32 (up y).val := by
  pointwise [val_main_v127, val_main_v126]
  rw [v116]
  exact floor_eq _ (by omega) _ (frac_bd y).1 (frac_bd y).2

/-- The next row or column, kept on the grid. -/
theorem next_eq (n : Nat) (h : n < 900) : IntOp.minsi (IntOp.addi (BitVec.ofNat 32 n) 1#32) 255#32 = BitVec.ofNat 32 (min (n + 1) 255) := by
  apply BitVec.eq_of_toInt_eq
  rw [Interp.toInt_minsi, toInt_small (min (n + 1) 255) (by omega)]
  have : IntOp.addi (BitVec.ofNat 32 n) 1#32 = BitVec.ofNat 32 (n + 1) := by
    apply BitVec.eq_of_toNat_eq
    show (BitVec.ofNat 32 n + 1#32).toNat = _
    simp [BitVec.toNat_add, BitVec.toNat_ofNat]
  rw [this, toInt_small (n + 1) (by omega)]
  have h255 : (255#32 : BitVec 32).toInt = 255 := by decide
  show min ((n + 1 : ℕ) : ℤ) (255#32 : BitVec 32).toInt = _
  rw [h255]
  push_cast
  rfl

/-- The grid row below a sample. -/
theorem v131 (y : Fin 512) : val_main_v131 (F := Ideal) (ix1 y) = BitVec.ofNat 32 (down y).val := by
  pointwise [val_main_v131, val_main_v129, val_main_v128, val_main_c_23, val_main_v130, val_main_c_24]
  rw [v127]
  exact next_eq _ (by omega)

/-- The vertical weight of a sample. -/
theorem v139 (y : Fin 512) : val_main_v139 (F := Ideal) (ix1 y) = (frac y : EReal) := by
  pointwise [val_main_v139, val_main_v138]
  rw [v127, v116, num_eq _ (by omega), ← EReal.coe_sub]
  congr 1
  ring

/-- The horizontal sample positions: the columns themselves. -/
theorem v125 (x : Fin 256) : val_main_v125 (F := Ideal) (ix1 x) = ((x.val : ℝ) : EReal) := by
  pointwise [val_main_v125, val_main_v123, val_main_v121, val_main_v119, val_main_v117, val_main_v118, val_main_cst_19, val_main_v120, val_main_cst_20, val_main_v122, val_main_cst_21, val_main_v124, val_main_cst_22]
  rw [num_eq _ (by omega), half_eq, ← EReal.coe_add, ← EReal.coe_sub, max_zero]
  congr 1
  rw [max_eq_left (by have : (0 : ℝ) ≤ x.val := by positivity
                      linarith)]
  ring

/-- The grid column of a sample. -/
theorem v133 (x : Fin 256) : val_main_v133 (F := Ideal) (ix1 x) = BitVec.ofNat 32 x.val := by
  pointwise [val_main_v133, val_main_v132]
  rw [v125]
  simpa using floor_eq x.val (by omega) 0 le_rfl one_pos

/-- The grid column right of column `x`. -/
abbrev right (x : Fin 256) : Fin 256 := ⟨min (x.val + 1) 255, by omega⟩

/-- The grid column right of a sample. -/
theorem v137 (x : Fin 256) : val_main_v137 (F := Ideal) (ix1 x) = BitVec.ofNat 32 (right x).val := by
  pointwise [val_main_v137, val_main_v135, val_main_v134, val_main_c_25, val_main_v136, val_main_c_26]
  rw [v133]
  exact next_eq _ (by omega)

/-- The horizontal weight is zero. -/
theorem v142 (x : Fin 256) : val_main_v142 (F := Ideal) (ix1 x) = 0 := by
  pointwise [val_main_v142, val_main_v141]
  rw [v133, v125, num_eq _ (by omega), ← EReal.coe_sub, sub_self, EReal.coe_zero]

/-! The four samples. -/

/-- The sample above. -/
theorem v147 (b : Fin 16) (k : Fin 8) (y : Fin 512) (x : Fin 256) :
    val_main_v147 (F := Ideal) X M (ix4 b k y x) = val_main_v107 (F := Ideal) X M (ix4 b k (up y) x) := by
  unfold val_main_v147 val_main_v145
  rw [Ops.gather_col _ _ b k y x x, Ops.gather_row _ _ b k y x (up y)]
  · pointwise [val_main_v144]
    exact v127 y
  · pointwise [val_main_v146]
    exact v133 x

/-- The sample below. -/
theorem v155 (b : Fin 16) (k : Fin 8) (y : Fin 512) (x : Fin 256) :
    val_main_v155 (F := Ideal) X M (ix4 b k y x) = val_main_v107 (F := Ideal) X M (ix4 b k (down y) x) := by
  unfold val_main_v155 val_main_v153
  rw [Ops.gather_col _ _ b k y x x, Ops.gather_row _ _ b k y x (down y)]
  · pointwise [val_main_v152]
    exact v131 y
  · pointwise [val_main_v154]
    exact v133 x

/-- The picture doubled in height: the rows above and below the sample, weighted; the columns' weight is zero. -/
theorem v186 (b : Fin 16) (k : Fin 8) (y : Fin 512) (x : Fin 256) : val_main_v186 (F := Ideal) X M (ix4 b k y x)
    = val_main_v107 (F := Ideal) X M (ix4 b k (up y) x) * (1 - (frac y : EReal))
      + val_main_v107 (F := Ideal) X M (ix4 b k (down y) x) * (frac y : EReal) := by
  pointwise [val_main_v186, val_main_v182, val_main_v168, val_main_v164, val_main_v163, val_main_v162, val_main_v161, val_main_v160, val_main_cst_27, val_main_v143, val_main_v167, val_main_v166, val_main_v165, val_main_v181, val_main_v180, val_main_v179, val_main_v178, val_main_cst_29, val_main_v140, val_main_v185, val_main_v177, val_main_v173, val_main_v172, val_main_v171, val_main_v170, val_main_v169, val_main_cst_28, val_main_v176, val_main_v175, val_main_v174, val_main_v184, val_main_v183]
  rw [v142, v139, v147, v155]
  simp only [sub_zero, mul_one, mul_zero, add_zero]

/-- THE REFERENCE'S RESULT: the picture of each curve's cells. -/
theorem v187 (c : Fin 128) (i : Fin 256) (w : Fin 512) :
    val_main_v187 (F := Ideal) X M (ix3 c i w) = img (cells X M c) i w := by
  have hi : idx_main_v187 (ix3 c i w) = ix4 (grp c) (mem c) (⟨2 * i.val + w.val / 256, by omega⟩ : Fin 512) (col w) := by
    funext d
    fin_cases d <;> refine Fin.ext ?_
    · show ((c.val * 256 + i.val) * 512 + w.val) / 1048576 = c.val / 8
      omega
    · show ((c.val * 256 + i.val) * 512 + w.val) / 131072 % 8 = c.val % 8
      omega
    · show ((c.val * 256 + i.val) * 512 + w.val) / 256 % 512 = 2 * i.val + w.val / 256
      omega
    · show ((c.val * 256 + i.val) * 512 + w.val) % 256 = w.val % 256
      omega
  rw [val_main_v187_apply, hi, v186, v107, v107, ← EReal.coe_one, ← EReal.coe_sub, ← EReal.coe_mul, ← EReal.coe_mul, ← EReal.coe_add]
  unfold img
  congr 1
  by_cases hw : w.val < 256
  · by_cases h0 : i.val = 0
    · have e1 : up ⟨2 * i.val + w.val / 256, by omega⟩ = i := Fin.ext (by show (2 * i.val + w.val / 256 - 1) / 2 = i.val; omega)
      have e2 : other i w = i := Fin.ext (by show (if w.val < 256 then i.val - 1 else _) = i.val; rw [if_pos hw]; omega)
      have e3 : frac ⟨2 * i.val + w.val / 256, by omega⟩ = 0 := by unfold frac; rw [if_pos (by show 2 * i.val + w.val / 256 = 0; omega)]
      rw [e1, e2, e3]
      split_ifs <;> ring
    · have e1 : up ⟨2 * i.val + w.val / 256, by omega⟩ = other i w := Fin.ext (by
        show (2 * i.val + w.val / 256 - 1) / 2 = (if w.val < 256 then i.val - 1 else _); rw [if_pos hw]; omega)
      have e2 : down ⟨2 * i.val + w.val / 256, by omega⟩ = i := Fin.ext (by show min ((2 * i.val + w.val / 256 - 1) / 2 + 1) 255 = i.val; omega)
      have e3 : frac ⟨2 * i.val + w.val / 256, by omega⟩ = 3 / 4 := by
        unfold frac
        rw [if_neg (by show ¬ 2 * i.val + w.val / 256 = 0; omega), if_pos (by show (2 * i.val + w.val / 256) % 2 = 0; omega)]
      rw [e1, e2, e3]
      split_ifs <;> ring
  · have e1 : up ⟨2 * i.val + w.val / 256, by omega⟩ = i := Fin.ext (by show (2 * i.val + w.val / 256 - 1) / 2 = i.val; omega)
    have e2 : down ⟨2 * i.val + w.val / 256, by omega⟩ = other i w := Fin.ext (by
      show min ((2 * i.val + w.val / 256 - 1) / 2 + 1) 255 = (if w.val < 256 then _ else min (i.val + 1) 255); rw [if_neg hw]; omega)
    have e3 : frac ⟨2 * i.val + w.val / 256, by omega⟩ = 1 / 4 := by
      unfold frac
      rw [if_neg (by show ¬ 2 * i.val + w.val / 256 = 0; omega), if_neg (by show ¬ (2 * i.val + w.val / 256) % 2 = 0; omega)]
    rw [e1, e2, e3]
    split_ifs <;> ring

end Cert.ReferenceIdeal.Val
end
-- ==== Proof.Tame.lean ====
/-
  What the precondition says of one curve.
-/
module
public import proofs.«01_k».proof.Pre_tame
public import proofs.«01_k».proof.Proof.Curve
public import Idealize.ShloMosaic.Lib.Pointwise
@[expose] public section
set_option maxRecDepth 16384

noncomputable section
open Idealize.ShloMosaic

namespace Cert.Pre_tame.Val
open Cert.Pre_tame Cert.Curve

variable [Facts] (X : FVec Ideal S16x8x128x2 .f32) (M : FVec Ideal S16x2 .f32)

/-- The greatest abscissa of a curve. -/
abbrev top (b : Fin 16) (k : Fin 8) : EReal := Finset.fold max ⊥ (tt X b k) Finset.univ

/-- A bit conjunction holds when both hold. -/
theorem andi_one (a b : BitVec 1) : IntOp.andi a b = 1#1 ↔ a = 1#1 ∧ b = 1#1 := by
  revert a b
  decide
/-- A bit disjunction holds when one holds. -/
theorem ori_one (a b : BitVec 1) : IntOp.ori a b = 1#1 ↔ a = 1#1 ∨ b = 1#1 := by
  revert a b
  decide
/-- The bit of a proposition. -/
theorem bool_one (p : Prop) [Decidable p] : BitVec.ofBool (decide p) = 1#1 ↔ p := by
  by_cases h : p <;> simp [h]
/-- Two positions compared as words. -/
theorem eq_one (i j : Fin 128) : IntOp.cmpi .eq (BitVec.ofNat 32 i.val) (BitVec.ofNat 32 j.val) = 1#1 ↔ i = j := by
  show BitVec.ofBool (BitVec.ofNat 32 i.val == BitVec.ofNat 32 j.val) = 1#1 ↔ _
  constructor
  · intro h
    have h' : BitVec.ofNat 32 i.val = BitVec.ofNat 32 j.val := by
      by_contra hn
      have hb : (BitVec.ofNat 32 i.val == BitVec.ofNat 32 j.val) = false := by simpa using hn
      rw [hb] at h
      exact absurd h (by decide)
    have := congrArg BitVec.toNat h'
    rw [BitVec.toNat_ofNat, BitVec.toNat_ofNat] at this
    exact Fin.ext (by omega)
  · rintro rfl
    simp

/-- One entry of the precondition, read. -/
theorem entry (h : fn (F := Ideal) X M = fun _ => 1#1) (b : Fin 16) (k : Fin 8) (i j : Fin 128) :
    (((w255 < tt X b k i ∨ tt X b k j < Ideal.liftRound Int.ceil (tt X b k i)) ∨ tt X b k j ≤ tt X b k i) ∨ eps < tt X b k j - tt X b k i)
    ∧ ((w255 < top X b k ∨ top X b k ≠ Ideal.liftRound Int.floor (top X b k))
      ∨ (((i = j ∨ tt X b k i ≠ top X b k) ∨ tt X b k j ≠ top X b k) ∧ max (vv X M b k i) (-(vv X M b k i)) < ⊤)) := by
  have h0 := congrFun h (ix4 b k i j)
  have hbot : Ideal.ofBits .f32 4286578688#32 = ⊥ := by simp [Ideal.ofBits, Ideal.ieee]
  have htop : Ideal.ofBits .f32 2139095040#32 = ⊤ := by simp [Ideal.ofBits, Ideal.ieee]
  revert h0
  pointwise [fn, fn_part1, fn_part2, fn_part3]
  rw [hbot, htop]
  intro h0
  simp only [andi_one, ori_one, bool_one, eq_one] at h0
  exact h0

/-- THE FIRST PART: an abscissa past the grid row above another is more than `2⁻⁴⁶` past it. -/
theorem apart (h : fn (F := Ideal) X M = fun _ => 1#1) (b : Fin 16) (k : Fin 8) : Interp.Apart (tt X b k) eps := by
  intro i j
  have := (entry X M h b k i j).1
  rw [w255_eq] at this
  tauto

/-- THE SECOND PART: where a curve ends at a grid row, it ends there once and its ordinates are finite. -/
theorem alone (h : fn (F := Ideal) X M = fun _ => 1#1) (b : Fin 16) (k : Fin 8) : Interp.Alone (tt X b k) (vv X M b k) (top X b k) := by
  intro i j
  have := (entry X M h b k i j).2
  rw [w255_eq] at this
  tauto

/-- The last of the sorted abscissae is the greatest. -/
theorem top_eq (σ : Fin 128 → Fin 128) (b : Fin 16) (k : Fin 8) (hσ : Interp.Lists (tt X b k) σ) : tt X b k (σ 127) = top X b k := by
  unfold top
  apply le_antisymm
  · exact (Finset.le_fold_max _).2 (Or.inr ⟨σ 127, Finset.mem_univ _, le_rfl⟩)
  · refine (Finset.fold_max_le _).2 ⟨bot_le, fun x _ => ?_⟩
    obtain ⟨y, rfl⟩ := hσ.1.2 x
    exact hσ.le (by omega)

end Cert.Pre_tame.Val
end
-- ==== Proof.Agree.lean ====
/-
  The two results are one array wherever the precondition holds.
-/
module
public import proofs.«01_k».proof.Proof.KernelRead
public import proofs.«01_k».proof.Proof.RefImage
public import proofs.«01_k».proof.Proof.Tame
@[expose] public section
set_option maxRecDepth 16384

noncomputable section
open Idealize.ShloMosaic

namespace Cert.Agree
open Cert.Curve

variable [Cert.Pre_tame.Facts]

/-- The grid cells are the same: the kernel finds the neighbours of a grid row by comparing with all points, the reference by
    sorting them and counting. -/
theorem cells_eq (X : FVec Ideal Cert.ReferenceIdeal.S16x8x128x2 .f32) (M : FVec Ideal Cert.ReferenceIdeal.S16x2 .f32)
    (h : Cert.Pre_tame.fn (F := Ideal) X M = fun _ => 1#1) (c : Fin 128) :
    Cert.ReferenceIdeal.Val.cells X M c = enc X M c := by
  funext q
  refine (Cert.ReferenceIdeal.Val.v91 X M c q).trans ?_
  unfold enc
  refine congrArg cell (Eq.symm ?_)
  refine Interp.near_eq_sorted (tt X (grp c) (mem c)) (vv X M (grp c) (mem c)) (Cert.ReferenceIdeal.Val.ord X c) (q.val : ℤ)
    (by omega) (by omega) neg eps (fun x => neg_neg.trans (tt_pos X _ _ x)) eps_pos eps_lt_top
    (Cert.ReferenceIdeal.Val.ord_lists X c) (Cert.Pre_tame.Val.apart X M h _ _) ?_
  rw [Cert.Pre_tame.Val.top_eq X _ _ _ (Cert.ReferenceIdeal.Val.ord_lists X c)]
  exact Cert.Pre_tame.Val.alone X M h _ _

/-- So are the pictures. -/
theorem result_eq (X : FVec Ideal Cert.ReferenceIdeal.S16x8x128x2 .f32) (M : FVec Ideal Cert.ReferenceIdeal.S16x2 .f32)
    (h : Cert.Pre_tame.fn (F := Ideal) X M = fun _ => 1#1) :
    Cert.ReferenceIdeal.Read.val_main_v187 (F := Ideal) X M = Cert.KernelIdeal.Val.out X M := by
  funext j
  obtain ⟨c, i, w, rfl⟩ : ∃ (c : Fin 128) (i : Fin 256) (w : Fin 512), j = ix3 c i w := ⟨j 0, j 1, j 2, funext fun d => by fin_cases d <;> rfl⟩
  rw [Cert.ReferenceIdeal.Val.v187, cells_eq X M h]
  exact (Cert.KernelIdeal.Val.out_apply X M c i w).symm

end Cert.Agree
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.Agree
public import Idealize.ShloMosaic.Lib.Claim

@[expose] public section

open Idealize.ShloMosaic Idealize.ShloMosaic.TcCoe Idealize.SL.Sem

namespace Cert.Proof

/-- The kernel's frame: it runs to its end, its arguments and its semaphores are left as they were. -/
theorem frame_p : Cert.quiescent_Kernel := fun m g _ => Cert.Kernel.Gen.frame m g

/-- The idealized kernel's frame. -/
theorem frame_pi : Cert.quiescent_KernelIdeal := fun m g _ => Cert.KernelIdeal.Gen.frame m g

/-- The idealized reference's frame: its run leaves the arguments alone, and it has no semaphore. -/
theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Each named constant rounds to the word it stands for. -/
theorem preserves : Cert.preserves_Kernel_KernelIdeal :=
  ⟨IdealRules.named_const.statement Cert.KernelIdeal.κ "past" .f32 0x7F61B1E6#32 _ rfl,
    IdealRules.named_const.statement Cert.KernelIdeal.κ "near" .f32 0x3F2F5C29#32 _ rfl⟩

/-- THE RESULTS ARE EQUAL over the extended reals, wherever the precondition holds: every entry of the kernel's array is the
    reference's. -/
theorem algebraic : Cert.algebraic_KernelIdeal_ReferenceIdeal_pre_tame := by
  pair_intro
  · run_from Cert.KernelIdeal.Gen.run_main m g
  · run_from Cert.ReferenceIdeal.Value.run m' g'
    refine (Cert.ReferenceIdeal.Read.val_main_v187_eq (F := Ideal) (StableHlo.launchContents m' c)).trans ?_
    show Cert.ReferenceIdeal.Read.val_main_v187 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = _
    rw [(hagree c).1, (hagree c).2]
    exact (Cert.Agree.result_eq _ _ (hpre c)).trans (Cert.KernelIdeal.Val.final m c).symm

/-- Everything claimed. -/
theorem claim : Cert.Claim :=
  ⟨Cert.Kernel.Gen.facts, Cert.KernelIdeal.Gen.facts, Cert.ReferenceIdeal.Gen.facts, Cert.Pre_tame.Gen.facts,
    frame_p, frame_pi, fun m g _ => Cert.KernelIdeal.Gen.frame m g, frame_ri, fun m g _ => frame_ri m g trivial, preserves, algebraic⟩

end Cert.Proof

end
